-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![16, 2048, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S16x128x1024 : Shape := ⟨3, ![16, 128, 1024]⟩
abbrev S8x128x1024 : Shape := ⟨3, ![8, 128, 1024]⟩
abbrev S7x128x1024 : Shape := ⟨3, ![7, 128, 1024]⟩
abbrev S64 : Shape := ⟨1, ![64]⟩
abbrev S56 : Shape := ⟨1, ![56]⟩
abbrev S_ : Shape := ⟨0, ![]⟩
abbrev S1x16x1024 : Shape := ⟨3, ![1, 16, 1024]⟩
abbrev S16x1024 : Shape := ⟨2, ![16, 1024]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S1x2048x1024, .bf16⟩
  | .hbm, ⟨1, _⟩ => ⟨S16x128x1024, .bf16⟩
  | .local _ .vmem, ⟨0, _⟩ => ⟨S1x2048x1024, .bf16⟩
  | .local _ .vmem, ⟨1, _⟩ => ⟨S16x128x1024, .bf16⟩
  | .local _ .vmem, ⟨2, _⟩ => ⟨S8x128x1024, .bf16⟩
  | .local _ .vmem, ⟨3, _⟩ => ⟨S7x128x1024, .bf16⟩
  | .local _ .vmem, ⟨4, _⟩ => ⟨S8x128x1024, .bf16⟩
  | .local _ .vmem, ⟨5, _⟩ => ⟨S7x128x1024, .bf16⟩
  | _, _ => ⟨S1x2048x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 482 → Bool
  | ⟨i, _⟩ => dmaSemScopedAt i

abbrev sig : RefSig :=
  (ofTc nBuf bufTy 1 482 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_20 : BitVec 32) (c0_i32_34 : BitVec 32) : Fin 3 → Nat :=
  let c0 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v31 : BitVec 32 := Scalar.addi v2 c8_i32
  let v32 : BitVec 32 := Scalar.addi v31 c0_i32_20
  let c16_i32_21 : BitVec 32 := 16#32
  let c0_i32_22 : BitVec 32 := 0#32
  let v33 : BitVec 1 := Scalar.cmpi .eq c16_i32_21 c0_i32_22
  let c1_i32_23 : BitVec 32 := 1#32
  let v34 : BitVec 32 := Scalar.select v33 c1_i32_23 c16_i32_21
  let v35 : BitVec 32 := Scalar.remsi v32 v34
  let c0_i32_25 : BitVec 32 := 0#32
  let v37 : BitVec 1 := Scalar.cmpi .slt v35 c0_i32_25
  let c0_i32_26 : BitVec 32 := 0#32
  let v38 : BitVec 1 := Scalar.cmpi .slt v34 c0_i32_26
  let v39 : BitVec 1 := Scalar.xori v37 v38
  let c0_i32_24 : BitVec 32 := 0#32
  let v36 : BitVec 1 := Scalar.cmpi .ne v35 c0_i32_24
  let v40 : BitVec 1 := Scalar.andi v39 v36
  let v41 : BitVec 32 := Scalar.addi v35 v34
  let v42 : BitVec 32 := Scalar.select v40 v41 v35
  let c128_i32 : BitVec 32 := 128#32
  let v55 : BitVec 32 := Scalar.muli v42 c128_i32
  let v56 : BitVec 32 := Scalar.addi v55 c0_i32_34
  let v57 : Index := Scalar.indexCast v56
  let c0_35 : Index := 0#32
  ![0, v57.toNat, 0]
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_43 : BitVec 32 := 1#32
  let v63 : BitVec 32 := Scalar.muli v14 c1_i32_43
  let v64 : BitVec 32 := Scalar.addi c0_i32_44 v63
  v64.toNat
def k0_off2 (d0 : Dev nD) (c0_i32_27 : BitVec 32) (c0_i32_50 : BitVec 32) : Fin 3 → Nat :=
  let c0_51 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v43 : BitVec 32 := Scalar.addi v2 c7_i32
  let v44 : BitVec 32 := Scalar.subi v43 c0_i32_27
  let c16_i32_28 : BitVec 32 := 16#32
  let c0_i32_29 : BitVec 32 := 0#32
  let v45 : BitVec 1 := Scalar.cmpi .eq c16_i32_28 c0_i32_29
  let c1_i32_30 : BitVec 32 := 1#32
  let v46 : BitVec 32 := Scalar.select v45 c1_i32_30 c16_i32_28
  let v47 : BitVec 32 := Scalar.remsi v44 v46
  let c0_i32_32 : BitVec 32 := 0#32
  let v49 : BitVec 1 := Scalar.cmpi .slt v47 c0_i32_32
  let c0_i32_33 : BitVec 32 := 0#32
  let v50 : BitVec 1 := Scalar.cmpi .slt v46 c0_i32_33
  let v51 : BitVec 1 := Scalar.xori v49 v50
  let c0_i32_31 : BitVec 32 := 0#32
  let v48 : BitVec 1 := Scalar.cmpi .ne v47 c0_i32_31
  let v52 : BitVec 1 := Scalar.andi v51 v48
  let v53 : BitVec 32 := Scalar.addi v47 v46
  let v54 : BitVec 32 := Scalar.select v52 v53 v47
  let c128_i32_49 : BitVec 32 := 128#32
  let v73 : BitVec 32 := Scalar.muli v54 c128_i32_49
  let v74 : BitVec 32 := Scalar.addi v73 c0_i32_50
  let v75 : Index := Scalar.indexCast v74
  let c0_52 : Index := 0#32
  ![0, v75.toNat, 0]
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_60 : BitVec 32 := 1#32
  let v81 : BitVec 32 := Scalar.muli v25 c1_i32_60
  let v82 : BitVec 32 := Scalar.addi c0_i32_61 v81
  v82.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_76 : BitVec 32 := 1#32
  let v99 : BitVec 32 := Scalar.muli v14 c1_i32_76
  let v100 : BitVec 32 := Scalar.addi c0_i32_77 v99
  v100.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_93 : BitVec 32 := 1#32
  let v117 : BitVec 32 := Scalar.muli v25 c1_i32_93
  let v118 : BitVec 32 := Scalar.addi c0_i32_94 v117
  v118.toNat
def k0_dev7 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_108 : BitVec 32 := 1#32
  let v135 : BitVec 32 := Scalar.muli v14 c1_i32_108
  let v136 : BitVec 32 := Scalar.addi c0_i32_109 v135
  v136.toNat
def k0_dev8 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_125 : BitVec 32 := 1#32
  let v153 : BitVec 32 := Scalar.muli v25 c1_i32_125
  let v154 : BitVec 32 := Scalar.addi c0_i32_126 v153
  v154.toNat
def k0_dev9 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_139 : BitVec 32 := 1#32
  let v171 : BitVec 32 := Scalar.muli v14 c1_i32_139
  let v172 : BitVec 32 := Scalar.addi c0_i32_140 v171
  v172.toNat
def k0_dev10 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_156 : BitVec 32 := 1#32
  let v189 : BitVec 32 := Scalar.muli v25 c1_i32_156
  let v190 : BitVec 32 := Scalar.addi c0_i32_157 v189
  v190.toNat
def k0_dev11 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_170 : BitVec 32 := 1#32
  let v207 : BitVec 32 := Scalar.muli v14 c1_i32_170
  let v208 : BitVec 32 := Scalar.addi c0_i32_171 v207
  v208.toNat
def k0_dev12 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_187 : BitVec 32 := 1#32
  let v225 : BitVec 32 := Scalar.muli v25 c1_i32_187
  let v226 : BitVec 32 := Scalar.addi c0_i32_188 v225
  v226.toNat
def k0_dev13 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_201 : BitVec 32 := 1#32
  let v243 : BitVec 32 := Scalar.muli v14 c1_i32_201
  let v244 : BitVec 32 := Scalar.addi c0_i32_202 v243
  v244.toNat
def k0_dev14 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_218 : BitVec 32 := 1#32
  let v261 : BitVec 32 := Scalar.muli v25 c1_i32_218
  let v262 : BitVec 32 := Scalar.addi c0_i32_219 v261
  v262.toNat
def k0_dev15 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_232 : BitVec 32 := 1#32
  let v279 : BitVec 32 := Scalar.muli v14 c1_i32_232
  let v280 : BitVec 32 := Scalar.addi c0_i32_233 v279
  v280.toNat
def k0_dev16 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_249 : BitVec 32 := 1#32
  let v297 : BitVec 32 := Scalar.muli v25 c1_i32_249
  let v298 : BitVec 32 := Scalar.addi c0_i32_250 v297
  v298.toNat
def k0_dev17 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_264 : BitVec 32 := 1#32
  let v315 : BitVec 32 := Scalar.muli v14 c1_i32_264
  let v316 : BitVec 32 := Scalar.addi c0_i32_265 v315
  v316.toNat
def k0_dev18 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_281 : BitVec 32 := 1#32
  let v333 : BitVec 32 := Scalar.muli v25 c1_i32_281
  let v334 : BitVec 32 := Scalar.addi c0_i32_282 v333
  v334.toNat
def k0_dev19 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_335 : BitVec 32 := 1#32
  let v392 : BitVec 32 := Scalar.muli v14 c1_i32_335
  let v393 : BitVec 32 := Scalar.addi c0_i32_336 v392
  v393.toNat
def k0_dev20 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_374 : BitVec 32 := 1#32
  let v427 : BitVec 32 := Scalar.muli v25 c1_i32_374
  let v428 : BitVec 32 := Scalar.addi c0_i32_375 v427
  v428.toNat
def k0_dev21 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_412 : BitVec 32 := 1#32
  let v462 : BitVec 32 := Scalar.muli v14 c1_i32_412
  let v463 : BitVec 32 := Scalar.addi c0_i32_413 v462
  v463.toNat
def k0_dev22 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_451 : BitVec 32 := 1#32
  let v497 : BitVec 32 := Scalar.muli v25 c1_i32_451
  let v498 : BitVec 32 := Scalar.addi c0_i32_452 v497
  v498.toNat
def k0_dev23 (d0 : Dev nD) : Nat :=
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_489 : BitVec 32 := 1#32
  let v532 : BitVec 32 := Scalar.muli v14 c1_i32_489
  let v533 : BitVec 32 := Scalar.addi c0_i32_490 v532
  v533.toNat
def k0_dev24 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_528 : BitVec 32 := 1#32
  let v567 : BitVec 32 := Scalar.muli v25 c1_i32_528
  let v568 : BitVec 32 := Scalar.addi c0_i32_529 v567
  v568.toNat
def k0_dev25 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_566 : BitVec 32 := 1#32
  let v602 : BitVec 32 := Scalar.muli v14 c1_i32_566
  let v603 : BitVec 32 := Scalar.addi c0_i32_567 v602
  v603.toNat
def k0_dev26 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_605 : BitVec 32 := 1#32
  let v637 : BitVec 32 := Scalar.muli v25 c1_i32_605
  let v638 : BitVec 32 := Scalar.addi c0_i32_606 v637
  v638.toNat
def k0_dev27 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_643 : BitVec 32 := 1#32
  let v672 : BitVec 32 := Scalar.muli v14 c1_i32_643
  let v673 : BitVec 32 := Scalar.addi c0_i32_644 v672
  v673.toNat
def k0_dev28 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_682 : BitVec 32 := 1#32
  let v707 : BitVec 32 := Scalar.muli v25 c1_i32_682
  let v708 : BitVec 32 := Scalar.addi c0_i32_683 v707
  v708.toNat
def k0_dev29 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_720 : BitVec 32 := 1#32
  let v742 : BitVec 32 := Scalar.muli v14 c1_i32_720
  let v743 : BitVec 32 := Scalar.addi c0_i32_721 v742
  v743.toNat
def k0_dev30 (d0 : Dev nD) : Nat :=
  let c0_i32_760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_759 : BitVec 32 := 1#32
  let v777 : BitVec 32 := Scalar.muli v25 c1_i32_759
  let v778 : BitVec 32 := Scalar.addi c0_i32_760 v777
  v778.toNat
def k0_dev31 (d0 : Dev nD) : Nat :=
  let c0_i32_798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_797 : BitVec 32 := 1#32
  let v812 : BitVec 32 := Scalar.muli v14 c1_i32_797
  let v813 : BitVec 32 := Scalar.addi c0_i32_798 v812
  v813.toNat
def k0_dev32 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_836 : BitVec 32 := 1#32
  let v847 : BitVec 32 := Scalar.muli v25 c1_i32_836
  let v848 : BitVec 32 := Scalar.addi c0_i32_837 v847
  v848.toNat
def k0_dev33 (d0 : Dev nD) : Nat :=
  let c0_i32_875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_874 : BitVec 32 := 1#32
  let v882 : BitVec 32 := Scalar.muli v14 c1_i32_874
  let v883 : BitVec 32 := Scalar.addi c0_i32_875 v882
  v883.toNat
def k0_dev34 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_913 : BitVec 32 := 1#32
  let v917 : BitVec 32 := Scalar.muli v25 c1_i32_913
  let v918 : BitVec 32 := Scalar.addi c0_i32_914 v917
  v918.toNat
def k0_dev35 (d0 : Dev nD) : Nat :=
  let c0_i32_968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_967 : BitVec 32 := 1#32
  let v976 : BitVec 32 := Scalar.muli v14 c1_i32_967
  let v977 : BitVec 32 := Scalar.addi c0_i32_968 v976
  v977.toNat
def k0_dev36 (d0 : Dev nD) : Nat :=
  let c0_i32_1007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1006 : BitVec 32 := 1#32
  let v1011 : BitVec 32 := Scalar.muli v25 c1_i32_1006
  let v1012 : BitVec 32 := Scalar.addi c0_i32_1007 v1011
  v1012.toNat
def k0_dev37 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1044 : BitVec 32 := 1#32
  let v1046 : BitVec 32 := Scalar.muli v14 c1_i32_1044
  let v1047 : BitVec 32 := Scalar.addi c0_i32_1045 v1046
  v1047.toNat
def k0_dev38 (d0 : Dev nD) : Nat :=
  let c0_i32_1084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1083 : BitVec 32 := 1#32
  let v1081 : BitVec 32 := Scalar.muli v25 c1_i32_1083
  let v1082 : BitVec 32 := Scalar.addi c0_i32_1084 v1081
  v1082.toNat
def k0_dev39 (d0 : Dev nD) : Nat :=
  let c0_i32_1122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1121 : BitVec 32 := 1#32
  let v1116 : BitVec 32 := Scalar.muli v14 c1_i32_1121
  let v1117 : BitVec 32 := Scalar.addi c0_i32_1122 v1116
  v1117.toNat
def k0_dev40 (d0 : Dev nD) : Nat :=
  let c0_i32_1161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1160 : BitVec 32 := 1#32
  let v1151 : BitVec 32 := Scalar.muli v25 c1_i32_1160
  let v1152 : BitVec 32 := Scalar.addi c0_i32_1161 v1151
  v1152.toNat
def k0_dev41 (d0 : Dev nD) : Nat :=
  let c0_i32_1199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1198 : BitVec 32 := 1#32
  let v1186 : BitVec 32 := Scalar.muli v14 c1_i32_1198
  let v1187 : BitVec 32 := Scalar.addi c0_i32_1199 v1186
  v1187.toNat
def k0_dev42 (d0 : Dev nD) : Nat :=
  let c0_i32_1238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1237 : BitVec 32 := 1#32
  let v1221 : BitVec 32 := Scalar.muli v25 c1_i32_1237
  let v1222 : BitVec 32 := Scalar.addi c0_i32_1238 v1221
  v1222.toNat
def k0_dev43 (d0 : Dev nD) : Nat :=
  let c0_i32_1276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1275 : BitVec 32 := 1#32
  let v1256 : BitVec 32 := Scalar.muli v14 c1_i32_1275
  let v1257 : BitVec 32 := Scalar.addi c0_i32_1276 v1256
  v1257.toNat
def k0_dev44 (d0 : Dev nD) : Nat :=
  let c0_i32_1315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1314 : BitVec 32 := 1#32
  let v1291 : BitVec 32 := Scalar.muli v25 c1_i32_1314
  let v1292 : BitVec 32 := Scalar.addi c0_i32_1315 v1291
  v1292.toNat
def k0_dev45 (d0 : Dev nD) : Nat :=
  let c0_i32_1353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1352 : BitVec 32 := 1#32
  let v1326 : BitVec 32 := Scalar.muli v14 c1_i32_1352
  let v1327 : BitVec 32 := Scalar.addi c0_i32_1353 v1326
  v1327.toNat
def k0_dev46 (d0 : Dev nD) : Nat :=
  let c0_i32_1392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1391 : BitVec 32 := 1#32
  let v1361 : BitVec 32 := Scalar.muli v25 c1_i32_1391
  let v1362 : BitVec 32 := Scalar.addi c0_i32_1392 v1361
  v1362.toNat
def k0_dev47 (d0 : Dev nD) : Nat :=
  let c0_i32_1430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1429 : BitVec 32 := 1#32
  let v1396 : BitVec 32 := Scalar.muli v14 c1_i32_1429
  let v1397 : BitVec 32 := Scalar.addi c0_i32_1430 v1396
  v1397.toNat
def k0_dev48 (d0 : Dev nD) : Nat :=
  let c0_i32_1469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1468 : BitVec 32 := 1#32
  let v1431 : BitVec 32 := Scalar.muli v25 c1_i32_1468
  let v1432 : BitVec 32 := Scalar.addi c0_i32_1469 v1431
  v1432.toNat
def k0_dev49 (d0 : Dev nD) : Nat :=
  let c0_i32_1507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1506 : BitVec 32 := 1#32
  let v1466 : BitVec 32 := Scalar.muli v14 c1_i32_1506
  let v1467 : BitVec 32 := Scalar.addi c0_i32_1507 v1466
  v1467.toNat
def k0_dev50 (d0 : Dev nD) : Nat :=
  let c0_i32_1546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1545 : BitVec 32 := 1#32
  let v1501 : BitVec 32 := Scalar.muli v25 c1_i32_1545
  let v1502 : BitVec 32 := Scalar.addi c0_i32_1546 v1501
  v1502.toNat
def k0_dev51 (d0 : Dev nD) : Nat :=
  let c0_i32_1599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1598 : BitVec 32 := 1#32
  let v1560 : BitVec 32 := Scalar.muli v14 c1_i32_1598
  let v1561 : BitVec 32 := Scalar.addi c0_i32_1599 v1560
  v1561.toNat
def k0_dev52 (d0 : Dev nD) : Nat :=
  let c0_i32_1638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1637 : BitVec 32 := 1#32
  let v1595 : BitVec 32 := Scalar.muli v25 c1_i32_1637
  let v1596 : BitVec 32 := Scalar.addi c0_i32_1638 v1595
  v1596.toNat
def k0_dev53 (d0 : Dev nD) : Nat :=
  let c0_i32_1676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1675 : BitVec 32 := 1#32
  let v1630 : BitVec 32 := Scalar.muli v14 c1_i32_1675
  let v1631 : BitVec 32 := Scalar.addi c0_i32_1676 v1630
  v1631.toNat
def k0_dev54 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1714 : BitVec 32 := 1#32
  let v1665 : BitVec 32 := Scalar.muli v25 c1_i32_1714
  let v1666 : BitVec 32 := Scalar.addi c0_i32_1715 v1665
  v1666.toNat
def k0_dev55 (d0 : Dev nD) : Nat :=
  let c0_i32_1753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1752 : BitVec 32 := 1#32
  let v1700 : BitVec 32 := Scalar.muli v14 c1_i32_1752
  let v1701 : BitVec 32 := Scalar.addi c0_i32_1753 v1700
  v1701.toNat
def k0_dev56 (d0 : Dev nD) : Nat :=
  let c0_i32_1792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1791 : BitVec 32 := 1#32
  let v1735 : BitVec 32 := Scalar.muli v25 c1_i32_1791
  let v1736 : BitVec 32 := Scalar.addi c0_i32_1792 v1735
  v1736.toNat
def k0_dev57 (d0 : Dev nD) : Nat :=
  let c0_i32_1830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1829 : BitVec 32 := 1#32
  let v1770 : BitVec 32 := Scalar.muli v14 c1_i32_1829
  let v1771 : BitVec 32 := Scalar.addi c0_i32_1830 v1770
  v1771.toNat
def k0_dev58 (d0 : Dev nD) : Nat :=
  let c0_i32_1869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1868 : BitVec 32 := 1#32
  let v1805 : BitVec 32 := Scalar.muli v25 c1_i32_1868
  let v1806 : BitVec 32 := Scalar.addi c0_i32_1869 v1805
  v1806.toNat
def k0_dev59 (d0 : Dev nD) : Nat :=
  let c0_i32_1907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1906 : BitVec 32 := 1#32
  let v1840 : BitVec 32 := Scalar.muli v14 c1_i32_1906
  let v1841 : BitVec 32 := Scalar.addi c0_i32_1907 v1840
  v1841.toNat
def k0_dev60 (d0 : Dev nD) : Nat :=
  let c0_i32_1946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1945 : BitVec 32 := 1#32
  let v1875 : BitVec 32 := Scalar.muli v25 c1_i32_1945
  let v1876 : BitVec 32 := Scalar.addi c0_i32_1946 v1875
  v1876.toNat
def k0_dev61 (d0 : Dev nD) : Nat :=
  let c0_i32_1984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1983 : BitVec 32 := 1#32
  let v1910 : BitVec 32 := Scalar.muli v14 c1_i32_1983
  let v1911 : BitVec 32 := Scalar.addi c0_i32_1984 v1910
  v1911.toNat
def k0_dev62 (d0 : Dev nD) : Nat :=
  let c0_i32_2023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2022 : BitVec 32 := 1#32
  let v1945 : BitVec 32 := Scalar.muli v25 c1_i32_2022
  let v1946 : BitVec 32 := Scalar.addi c0_i32_2023 v1945
  v1946.toNat
def k0_dev63 (d0 : Dev nD) : Nat :=
  let c0_i32_2061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2060 : BitVec 32 := 1#32
  let v1980 : BitVec 32 := Scalar.muli v14 c1_i32_2060
  let v1981 : BitVec 32 := Scalar.addi c0_i32_2061 v1980
  v1981.toNat
def k0_dev64 (d0 : Dev nD) : Nat :=
  let c0_i32_2100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2099 : BitVec 32 := 1#32
  let v2015 : BitVec 32 := Scalar.muli v25 c1_i32_2099
  let v2016 : BitVec 32 := Scalar.addi c0_i32_2100 v2015
  v2016.toNat
def k0_dev65 (d0 : Dev nD) : Nat :=
  let c0_i32_2138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2137 : BitVec 32 := 1#32
  let v2050 : BitVec 32 := Scalar.muli v14 c1_i32_2137
  let v2051 : BitVec 32 := Scalar.addi c0_i32_2138 v2050
  v2051.toNat
def k0_dev66 (d0 : Dev nD) : Nat :=
  let c0_i32_2177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2176 : BitVec 32 := 1#32
  let v2085 : BitVec 32 := Scalar.muli v25 c1_i32_2176
  let v2086 : BitVec 32 := Scalar.addi c0_i32_2177 v2085
  v2086.toNat
def k0_dev67 (d0 : Dev nD) : Nat :=
  let c0_i32_2231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2230 : BitVec 32 := 1#32
  let v2144 : BitVec 32 := Scalar.muli v14 c1_i32_2230
  let v2145 : BitVec 32 := Scalar.addi c0_i32_2231 v2144
  v2145.toNat
def k0_dev68 (d0 : Dev nD) : Nat :=
  let c0_i32_2270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2269 : BitVec 32 := 1#32
  let v2179 : BitVec 32 := Scalar.muli v25 c1_i32_2269
  let v2180 : BitVec 32 := Scalar.addi c0_i32_2270 v2179
  v2180.toNat
def k0_dev69 (d0 : Dev nD) : Nat :=
  let c0_i32_2308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2307 : BitVec 32 := 1#32
  let v2214 : BitVec 32 := Scalar.muli v14 c1_i32_2307
  let v2215 : BitVec 32 := Scalar.addi c0_i32_2308 v2214
  v2215.toNat
def k0_dev70 (d0 : Dev nD) : Nat :=
  let c0_i32_2347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2346 : BitVec 32 := 1#32
  let v2249 : BitVec 32 := Scalar.muli v25 c1_i32_2346
  let v2250 : BitVec 32 := Scalar.addi c0_i32_2347 v2249
  v2250.toNat
def k0_dev71 (d0 : Dev nD) : Nat :=
  let c0_i32_2385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2384 : BitVec 32 := 1#32
  let v2284 : BitVec 32 := Scalar.muli v14 c1_i32_2384
  let v2285 : BitVec 32 := Scalar.addi c0_i32_2385 v2284
  v2285.toNat
def k0_dev72 (d0 : Dev nD) : Nat :=
  let c0_i32_2424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2423 : BitVec 32 := 1#32
  let v2319 : BitVec 32 := Scalar.muli v25 c1_i32_2423
  let v2320 : BitVec 32 := Scalar.addi c0_i32_2424 v2319
  v2320.toNat
def k0_dev73 (d0 : Dev nD) : Nat :=
  let c0_i32_2462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2461 : BitVec 32 := 1#32
  let v2354 : BitVec 32 := Scalar.muli v14 c1_i32_2461
  let v2355 : BitVec 32 := Scalar.addi c0_i32_2462 v2354
  v2355.toNat
def k0_dev74 (d0 : Dev nD) : Nat :=
  let c0_i32_2501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2500 : BitVec 32 := 1#32
  let v2389 : BitVec 32 := Scalar.muli v25 c1_i32_2500
  let v2390 : BitVec 32 := Scalar.addi c0_i32_2501 v2389
  v2390.toNat
def k0_dev75 (d0 : Dev nD) : Nat :=
  let c0_i32_2539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2538 : BitVec 32 := 1#32
  let v2424 : BitVec 32 := Scalar.muli v14 c1_i32_2538
  let v2425 : BitVec 32 := Scalar.addi c0_i32_2539 v2424
  v2425.toNat
def k0_dev76 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2577 : BitVec 32 := 1#32
  let v2459 : BitVec 32 := Scalar.muli v25 c1_i32_2577
  let v2460 : BitVec 32 := Scalar.addi c0_i32_2578 v2459
  v2460.toNat
def k0_dev77 (d0 : Dev nD) : Nat :=
  let c0_i32_2616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2615 : BitVec 32 := 1#32
  let v2494 : BitVec 32 := Scalar.muli v14 c1_i32_2615
  let v2495 : BitVec 32 := Scalar.addi c0_i32_2616 v2494
  v2495.toNat
def k0_dev78 (d0 : Dev nD) : Nat :=
  let c0_i32_2655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2654 : BitVec 32 := 1#32
  let v2529 : BitVec 32 := Scalar.muli v25 c1_i32_2654
  let v2530 : BitVec 32 := Scalar.addi c0_i32_2655 v2529
  v2530.toNat
def k0_dev79 (d0 : Dev nD) : Nat :=
  let c0_i32_2693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2692 : BitVec 32 := 1#32
  let v2564 : BitVec 32 := Scalar.muli v14 c1_i32_2692
  let v2565 : BitVec 32 := Scalar.addi c0_i32_2693 v2564
  v2565.toNat
def k0_dev80 (d0 : Dev nD) : Nat :=
  let c0_i32_2732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2731 : BitVec 32 := 1#32
  let v2599 : BitVec 32 := Scalar.muli v25 c1_i32_2731
  let v2600 : BitVec 32 := Scalar.addi c0_i32_2732 v2599
  v2600.toNat
def k0_dev81 (d0 : Dev nD) : Nat :=
  let c0_i32_2770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2769 : BitVec 32 := 1#32
  let v2634 : BitVec 32 := Scalar.muli v14 c1_i32_2769
  let v2635 : BitVec 32 := Scalar.addi c0_i32_2770 v2634
  v2635.toNat
def k0_dev82 (d0 : Dev nD) : Nat :=
  let c0_i32_2809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2808 : BitVec 32 := 1#32
  let v2669 : BitVec 32 := Scalar.muli v25 c1_i32_2808
  let v2670 : BitVec 32 := Scalar.addi c0_i32_2809 v2669
  v2670.toNat
def k0_dev83 (d0 : Dev nD) : Nat :=
  let c0_i32_2862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2861 : BitVec 32 := 1#32
  let v2728 : BitVec 32 := Scalar.muli v14 c1_i32_2861
  let v2729 : BitVec 32 := Scalar.addi c0_i32_2862 v2728
  v2729.toNat
def k0_dev84 (d0 : Dev nD) : Nat :=
  let c0_i32_2901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2900 : BitVec 32 := 1#32
  let v2763 : BitVec 32 := Scalar.muli v25 c1_i32_2900
  let v2764 : BitVec 32 := Scalar.addi c0_i32_2901 v2763
  v2764.toNat
def k0_dev85 (d0 : Dev nD) : Nat :=
  let c0_i32_2939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2938 : BitVec 32 := 1#32
  let v2798 : BitVec 32 := Scalar.muli v14 c1_i32_2938
  let v2799 : BitVec 32 := Scalar.addi c0_i32_2939 v2798
  v2799.toNat
def k0_dev86 (d0 : Dev nD) : Nat :=
  let c0_i32_2978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2977 : BitVec 32 := 1#32
  let v2833 : BitVec 32 := Scalar.muli v25 c1_i32_2977
  let v2834 : BitVec 32 := Scalar.addi c0_i32_2978 v2833
  v2834.toNat
def k0_dev87 (d0 : Dev nD) : Nat :=
  let c0_i32_3016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3015 : BitVec 32 := 1#32
  let v2868 : BitVec 32 := Scalar.muli v14 c1_i32_3015
  let v2869 : BitVec 32 := Scalar.addi c0_i32_3016 v2868
  v2869.toNat
def k0_dev88 (d0 : Dev nD) : Nat :=
  let c0_i32_3055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3054 : BitVec 32 := 1#32
  let v2903 : BitVec 32 := Scalar.muli v25 c1_i32_3054
  let v2904 : BitVec 32 := Scalar.addi c0_i32_3055 v2903
  v2904.toNat
def k0_dev89 (d0 : Dev nD) : Nat :=
  let c0_i32_3093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3092 : BitVec 32 := 1#32
  let v2938 : BitVec 32 := Scalar.muli v14 c1_i32_3092
  let v2939 : BitVec 32 := Scalar.addi c0_i32_3093 v2938
  v2939.toNat
def k0_dev90 (d0 : Dev nD) : Nat :=
  let c0_i32_3132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3131 : BitVec 32 := 1#32
  let v2973 : BitVec 32 := Scalar.muli v25 c1_i32_3131
  let v2974 : BitVec 32 := Scalar.addi c0_i32_3132 v2973
  v2974.toNat
def k0_dev91 (d0 : Dev nD) : Nat :=
  let c0_i32_3170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3169 : BitVec 32 := 1#32
  let v3008 : BitVec 32 := Scalar.muli v14 c1_i32_3169
  let v3009 : BitVec 32 := Scalar.addi c0_i32_3170 v3008
  v3009.toNat
def k0_dev92 (d0 : Dev nD) : Nat :=
  let c0_i32_3209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3208 : BitVec 32 := 1#32
  let v3043 : BitVec 32 := Scalar.muli v25 c1_i32_3208
  let v3044 : BitVec 32 := Scalar.addi c0_i32_3209 v3043
  v3044.toNat
def k0_dev93 (d0 : Dev nD) : Nat :=
  let c0_i32_3247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3246 : BitVec 32 := 1#32
  let v3078 : BitVec 32 := Scalar.muli v14 c1_i32_3246
  let v3079 : BitVec 32 := Scalar.addi c0_i32_3247 v3078
  v3079.toNat
def k0_dev94 (d0 : Dev nD) : Nat :=
  let c0_i32_3286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3285 : BitVec 32 := 1#32
  let v3113 : BitVec 32 := Scalar.muli v25 c1_i32_3285
  let v3114 : BitVec 32 := Scalar.addi c0_i32_3286 v3113
  v3114.toNat
def k0_dev95 (d0 : Dev nD) : Nat :=
  let c0_i32_3324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3323 : BitVec 32 := 1#32
  let v3148 : BitVec 32 := Scalar.muli v14 c1_i32_3323
  let v3149 : BitVec 32 := Scalar.addi c0_i32_3324 v3148
  v3149.toNat
def k0_dev96 (d0 : Dev nD) : Nat :=
  let c0_i32_3363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3362 : BitVec 32 := 1#32
  let v3183 : BitVec 32 := Scalar.muli v25 c1_i32_3362
  let v3184 : BitVec 32 := Scalar.addi c0_i32_3363 v3183
  v3184.toNat
def k0_dev97 (d0 : Dev nD) : Nat :=
  let c0_i32_3401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3400 : BitVec 32 := 1#32
  let v3218 : BitVec 32 := Scalar.muli v14 c1_i32_3400
  let v3219 : BitVec 32 := Scalar.addi c0_i32_3401 v3218
  v3219.toNat
def k0_dev98 (d0 : Dev nD) : Nat :=
  let c0_i32_3440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3439 : BitVec 32 := 1#32
  let v3253 : BitVec 32 := Scalar.muli v25 c1_i32_3439
  let v3254 : BitVec 32 := Scalar.addi c0_i32_3440 v3253
  v3254.toNat
def k0_dev99 (d0 : Dev nD) : Nat :=
  let c0_i32_3494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3493 : BitVec 32 := 1#32
  let v3312 : BitVec 32 := Scalar.muli v14 c1_i32_3493
  let v3313 : BitVec 32 := Scalar.addi c0_i32_3494 v3312
  v3313.toNat
def k0_dev100 (d0 : Dev nD) : Nat :=
  let c0_i32_3533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3532 : BitVec 32 := 1#32
  let v3347 : BitVec 32 := Scalar.muli v25 c1_i32_3532
  let v3348 : BitVec 32 := Scalar.addi c0_i32_3533 v3347
  v3348.toNat
def k0_dev101 (d0 : Dev nD) : Nat :=
  let c0_i32_3571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3570 : BitVec 32 := 1#32
  let v3382 : BitVec 32 := Scalar.muli v14 c1_i32_3570
  let v3383 : BitVec 32 := Scalar.addi c0_i32_3571 v3382
  v3383.toNat
def k0_dev102 (d0 : Dev nD) : Nat :=
  let c0_i32_3610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3609 : BitVec 32 := 1#32
  let v3417 : BitVec 32 := Scalar.muli v25 c1_i32_3609
  let v3418 : BitVec 32 := Scalar.addi c0_i32_3610 v3417
  v3418.toNat
def k0_dev103 (d0 : Dev nD) : Nat :=
  let c0_i32_3648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3647 : BitVec 32 := 1#32
  let v3452 : BitVec 32 := Scalar.muli v14 c1_i32_3647
  let v3453 : BitVec 32 := Scalar.addi c0_i32_3648 v3452
  v3453.toNat
def k0_dev104 (d0 : Dev nD) : Nat :=
  let c0_i32_3687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3686 : BitVec 32 := 1#32
  let v3487 : BitVec 32 := Scalar.muli v25 c1_i32_3686
  let v3488 : BitVec 32 := Scalar.addi c0_i32_3687 v3487
  v3488.toNat
def k0_dev105 (d0 : Dev nD) : Nat :=
  let c0_i32_3725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3724 : BitVec 32 := 1#32
  let v3522 : BitVec 32 := Scalar.muli v14 c1_i32_3724
  let v3523 : BitVec 32 := Scalar.addi c0_i32_3725 v3522
  v3523.toNat
def k0_dev106 (d0 : Dev nD) : Nat :=
  let c0_i32_3764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3763 : BitVec 32 := 1#32
  let v3557 : BitVec 32 := Scalar.muli v25 c1_i32_3763
  let v3558 : BitVec 32 := Scalar.addi c0_i32_3764 v3557
  v3558.toNat
def k0_dev107 (d0 : Dev nD) : Nat :=
  let c0_i32_3802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3801 : BitVec 32 := 1#32
  let v3592 : BitVec 32 := Scalar.muli v14 c1_i32_3801
  let v3593 : BitVec 32 := Scalar.addi c0_i32_3802 v3592
  v3593.toNat
def k0_dev108 (d0 : Dev nD) : Nat :=
  let c0_i32_3841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3840 : BitVec 32 := 1#32
  let v3627 : BitVec 32 := Scalar.muli v25 c1_i32_3840
  let v3628 : BitVec 32 := Scalar.addi c0_i32_3841 v3627
  v3628.toNat
def k0_dev109 (d0 : Dev nD) : Nat :=
  let c0_i32_3879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3878 : BitVec 32 := 1#32
  let v3662 : BitVec 32 := Scalar.muli v14 c1_i32_3878
  let v3663 : BitVec 32 := Scalar.addi c0_i32_3879 v3662
  v3663.toNat
def k0_dev110 (d0 : Dev nD) : Nat :=
  let c0_i32_3918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3917 : BitVec 32 := 1#32
  let v3697 : BitVec 32 := Scalar.muli v25 c1_i32_3917
  let v3698 : BitVec 32 := Scalar.addi c0_i32_3918 v3697
  v3698.toNat
def k0_dev111 (d0 : Dev nD) : Nat :=
  let c0_i32_3956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3955 : BitVec 32 := 1#32
  let v3732 : BitVec 32 := Scalar.muli v14 c1_i32_3955
  let v3733 : BitVec 32 := Scalar.addi c0_i32_3956 v3732
  v3733.toNat
def k0_dev112 (d0 : Dev nD) : Nat :=
  let c0_i32_3995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3994 : BitVec 32 := 1#32
  let v3767 : BitVec 32 := Scalar.muli v25 c1_i32_3994
  let v3768 : BitVec 32 := Scalar.addi c0_i32_3995 v3767
  v3768.toNat
def k0_dev113 (d0 : Dev nD) : Nat :=
  let c0_i32_4033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4032 : BitVec 32 := 1#32
  let v3802 : BitVec 32 := Scalar.muli v14 c1_i32_4032
  let v3803 : BitVec 32 := Scalar.addi c0_i32_4033 v3802
  v3803.toNat
def k0_dev114 (d0 : Dev nD) : Nat :=
  let c0_i32_4072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4071 : BitVec 32 := 1#32
  let v3837 : BitVec 32 := Scalar.muli v25 c1_i32_4071
  let v3838 : BitVec 32 := Scalar.addi c0_i32_4072 v3837
  v3838.toNat
def k0_dev115 (d0 : Dev nD) : Nat :=
  let c0_i32_4117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4116 : BitVec 32 := 1#32
  let v3884 : BitVec 32 := Scalar.muli v14 c1_i32_4116
  let v3885 : BitVec 32 := Scalar.addi c0_i32_4117 v3884
  v3885.toNat
def k0_dev116 (d0 : Dev nD) : Nat :=
  let c0_i32_4155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4154 : BitVec 32 := 1#32
  let v3919 : BitVec 32 := Scalar.muli v14 c1_i32_4154
  let v3920 : BitVec 32 := Scalar.addi c0_i32_4155 v3919
  v3920.toNat
def k0_dev117 (d0 : Dev nD) : Nat :=
  let c0_i32_4193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4192 : BitVec 32 := 1#32
  let v3954 : BitVec 32 := Scalar.muli v14 c1_i32_4192
  let v3955 : BitVec 32 := Scalar.addi c0_i32_4193 v3954
  v3955.toNat
def k0_dev118 (d0 : Dev nD) : Nat :=
  let c0_i32_4231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4230 : BitVec 32 := 1#32
  let v3989 : BitVec 32 := Scalar.muli v14 c1_i32_4230
  let v3990 : BitVec 32 := Scalar.addi c0_i32_4231 v3989
  v3990.toNat
def k0_dev119 (d0 : Dev nD) : Nat :=
  let c0_i32_4269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4268 : BitVec 32 := 1#32
  let v4024 : BitVec 32 := Scalar.muli v14 c1_i32_4268
  let v4025 : BitVec 32 := Scalar.addi c0_i32_4269 v4024
  v4025.toNat
def k0_dev120 (d0 : Dev nD) : Nat :=
  let c0_i32_4307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4306 : BitVec 32 := 1#32
  let v4059 : BitVec 32 := Scalar.muli v14 c1_i32_4306
  let v4060 : BitVec 32 := Scalar.addi c0_i32_4307 v4059
  v4060.toNat
def k0_dev121 (d0 : Dev nD) : Nat :=
  let c0_i32_4345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4344 : BitVec 32 := 1#32
  let v4094 : BitVec 32 := Scalar.muli v14 c1_i32_4344
  let v4095 : BitVec 32 := Scalar.addi c0_i32_4345 v4094
  v4095.toNat
def k0_dev122 (d0 : Dev nD) : Nat :=
  let c0_i32_4383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4382 : BitVec 32 := 1#32
  let v4129 : BitVec 32 := Scalar.muli v14 c1_i32_4382
  let v4130 : BitVec 32 := Scalar.addi c0_i32_4383 v4129
  v4130.toNat
def k0_off3 (d0 : Dev nD) (c0_i32_4442 : BitVec 32) : Fin 3 → Nat :=
  let c0_4443 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_4441 : BitVec 32 := 128#32
  let v4190 : BitVec 32 := Scalar.muli v2 c128_i32_4441
  let v4191 : BitVec 32 := Scalar.addi v4190 c0_i32_4442
  let v4192 : Index := Scalar.indexCast v4191
  let c0_4444 : Index := 0#32
  ![0, v4192.toNat, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4201 : Index := Scalar.indexCast v2
  let c0_4451 : Index := 0#32
  let c0_4452 : Index := 0#32
  ![v4201.toNat, 0, 0]
def k0_off5 (d0 : Dev nD) (c0_i32_4388 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4139 : BitVec 32 := Scalar.addi v2 c0_i32_4388
  let c16_i32_4389 : BitVec 32 := 16#32
  let c0_i32_4390 : BitVec 32 := 0#32
  let v4140 : BitVec 1 := Scalar.cmpi .eq c16_i32_4389 c0_i32_4390
  let c1_i32_4391 : BitVec 32 := 1#32
  let v4141 : BitVec 32 := Scalar.select v4140 c1_i32_4391 c16_i32_4389
  let v4142 : BitVec 32 := Scalar.remsi v4139 v4141
  let c0_i32_4393 : BitVec 32 := 0#32
  let v4144 : BitVec 1 := Scalar.cmpi .slt v4142 c0_i32_4393
  let c0_i32_4394 : BitVec 32 := 0#32
  let v4145 : BitVec 1 := Scalar.cmpi .slt v4141 c0_i32_4394
  let v4146 : BitVec 1 := Scalar.xori v4144 v4145
  let c0_i32_4392 : BitVec 32 := 0#32
  let v4143 : BitVec 1 := Scalar.cmpi .ne v4142 c0_i32_4392
  let v4147 : BitVec 1 := Scalar.andi v4146 v4143
  let v4148 : BitVec 32 := Scalar.addi v4142 v4141
  let v4149 : BitVec 32 := Scalar.select v4147 v4148 v4142
  let c0_i32_4457 : BitVec 32 := 0#32
  let c0_i32_4458 : BitVec 32 := 0#32
  ![v4149.toNat, 0, 0]
def k0_dev123 (d0 : Dev nD) : Nat :=
  let c0_i32_4456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4455 : BitVec 32 := 1#32
  let v4205 : BitVec 32 := Scalar.muli v14 c1_i32_4455
  let v4206 : BitVec 32 := Scalar.addi c0_i32_4456 v4205
  v4206.toNat
def k0_off6 (d0 : Dev nD) (c0_i32_4396 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4395 : BitVec 32 := 16#32
  let v4150 : BitVec 32 := Scalar.addi v2 c16_i32_4395
  let v4151 : BitVec 32 := Scalar.subi v4150 c0_i32_4396
  let c16_i32_4397 : BitVec 32 := 16#32
  let c0_i32_4398 : BitVec 32 := 0#32
  let v4152 : BitVec 1 := Scalar.cmpi .eq c16_i32_4397 c0_i32_4398
  let c1_i32_4399 : BitVec 32 := 1#32
  let v4153 : BitVec 32 := Scalar.select v4152 c1_i32_4399 c16_i32_4397
  let v4154 : BitVec 32 := Scalar.remsi v4151 v4153
  let c0_i32_4401 : BitVec 32 := 0#32
  let v4156 : BitVec 1 := Scalar.cmpi .slt v4154 c0_i32_4401
  let c0_i32_4402 : BitVec 32 := 0#32
  let v4157 : BitVec 1 := Scalar.cmpi .slt v4153 c0_i32_4402
  let v4158 : BitVec 1 := Scalar.xori v4156 v4157
  let c0_i32_4400 : BitVec 32 := 0#32
  let v4155 : BitVec 1 := Scalar.cmpi .ne v4154 c0_i32_4400
  let v4159 : BitVec 1 := Scalar.andi v4158 v4155
  let v4160 : BitVec 32 := Scalar.addi v4154 v4153
  let v4161 : BitVec 32 := Scalar.select v4159 v4160 v4154
  let c0_i32_4465 : BitVec 32 := 0#32
  let c0_i32_4466 : BitVec 32 := 0#32
  ![v4161.toNat, 0, 0]
def k0_dev124 (d0 : Dev nD) : Nat :=
  let c0_i32_4464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4463 : BitVec 32 := 1#32
  let v4215 : BitVec 32 := Scalar.muli v25 c1_i32_4463
  let v4216 : BitVec 32 := Scalar.addi c0_i32_4464 v4215
  v4216.toNat
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4264 : Index := Scalar.indexCast v2
  let c16_4517 : Index := 16#32
  let c0_4518 : Index := 0#32
  ![v4264.toNat, 16, 0]
def k0_off8 (d0 : Dev nD) (c0_i32_4388 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4139 : BitVec 32 := Scalar.addi v2 c0_i32_4388
  let c16_i32_4389 : BitVec 32 := 16#32
  let c0_i32_4390 : BitVec 32 := 0#32
  let v4140 : BitVec 1 := Scalar.cmpi .eq c16_i32_4389 c0_i32_4390
  let c1_i32_4391 : BitVec 32 := 1#32
  let v4141 : BitVec 32 := Scalar.select v4140 c1_i32_4391 c16_i32_4389
  let v4142 : BitVec 32 := Scalar.remsi v4139 v4141
  let c0_i32_4393 : BitVec 32 := 0#32
  let v4144 : BitVec 1 := Scalar.cmpi .slt v4142 c0_i32_4393
  let c0_i32_4394 : BitVec 32 := 0#32
  let v4145 : BitVec 1 := Scalar.cmpi .slt v4141 c0_i32_4394
  let v4146 : BitVec 1 := Scalar.xori v4144 v4145
  let c0_i32_4392 : BitVec 32 := 0#32
  let v4143 : BitVec 1 := Scalar.cmpi .ne v4142 c0_i32_4392
  let v4147 : BitVec 1 := Scalar.andi v4146 v4143
  let v4148 : BitVec 32 := Scalar.addi v4142 v4141
  let v4149 : BitVec 32 := Scalar.select v4147 v4148 v4142
  let c16_i32_4523 : BitVec 32 := 16#32
  let c0_i32_4524 : BitVec 32 := 0#32
  ![v4149.toNat, 16, 0]
def k0_dev125 (d0 : Dev nD) : Nat :=
  let c0_i32_4522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4521 : BitVec 32 := 1#32
  let v4268 : BitVec 32 := Scalar.muli v14 c1_i32_4521
  let v4269 : BitVec 32 := Scalar.addi c0_i32_4522 v4268
  v4269.toNat
def k0_off9 (d0 : Dev nD) (c0_i32_4396 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4395 : BitVec 32 := 16#32
  let v4150 : BitVec 32 := Scalar.addi v2 c16_i32_4395
  let v4151 : BitVec 32 := Scalar.subi v4150 c0_i32_4396
  let c16_i32_4397 : BitVec 32 := 16#32
  let c0_i32_4398 : BitVec 32 := 0#32
  let v4152 : BitVec 1 := Scalar.cmpi .eq c16_i32_4397 c0_i32_4398
  let c1_i32_4399 : BitVec 32 := 1#32
  let v4153 : BitVec 32 := Scalar.select v4152 c1_i32_4399 c16_i32_4397
  let v4154 : BitVec 32 := Scalar.remsi v4151 v4153
  let c0_i32_4401 : BitVec 32 := 0#32
  let v4156 : BitVec 1 := Scalar.cmpi .slt v4154 c0_i32_4401
  let c0_i32_4402 : BitVec 32 := 0#32
  let v4157 : BitVec 1 := Scalar.cmpi .slt v4153 c0_i32_4402
  let v4158 : BitVec 1 := Scalar.xori v4156 v4157
  let c0_i32_4400 : BitVec 32 := 0#32
  let v4155 : BitVec 1 := Scalar.cmpi .ne v4154 c0_i32_4400
  let v4159 : BitVec 1 := Scalar.andi v4158 v4155
  let v4160 : BitVec 32 := Scalar.addi v4154 v4153
  let v4161 : BitVec 32 := Scalar.select v4159 v4160 v4154
  let c16_i32_4531 : BitVec 32 := 16#32
  let c0_i32_4532 : BitVec 32 := 0#32
  ![v4161.toNat, 16, 0]
def k0_dev126 (d0 : Dev nD) : Nat :=
  let c0_i32_4530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4529 : BitVec 32 := 1#32
  let v4278 : BitVec 32 := Scalar.muli v25 c1_i32_4529
  let v4279 : BitVec 32 := Scalar.addi c0_i32_4530 v4278
  v4279.toNat
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4327 : Index := Scalar.indexCast v2
  let c32_4583 : Index := 32#32
  let c0_4584 : Index := 0#32
  ![v4327.toNat, 32, 0]
def k0_off11 (d0 : Dev nD) (c0_i32_4388 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4139 : BitVec 32 := Scalar.addi v2 c0_i32_4388
  let c16_i32_4389 : BitVec 32 := 16#32
  let c0_i32_4390 : BitVec 32 := 0#32
  let v4140 : BitVec 1 := Scalar.cmpi .eq c16_i32_4389 c0_i32_4390
  let c1_i32_4391 : BitVec 32 := 1#32
  let v4141 : BitVec 32 := Scalar.select v4140 c1_i32_4391 c16_i32_4389
  let v4142 : BitVec 32 := Scalar.remsi v4139 v4141
  let c0_i32_4393 : BitVec 32 := 0#32
  let v4144 : BitVec 1 := Scalar.cmpi .slt v4142 c0_i32_4393
  let c0_i32_4394 : BitVec 32 := 0#32
  let v4145 : BitVec 1 := Scalar.cmpi .slt v4141 c0_i32_4394
  let v4146 : BitVec 1 := Scalar.xori v4144 v4145
  let c0_i32_4392 : BitVec 32 := 0#32
  let v4143 : BitVec 1 := Scalar.cmpi .ne v4142 c0_i32_4392
  let v4147 : BitVec 1 := Scalar.andi v4146 v4143
  let v4148 : BitVec 32 := Scalar.addi v4142 v4141
  let v4149 : BitVec 32 := Scalar.select v4147 v4148 v4142
  let c32_i32_4589 : BitVec 32 := 32#32
  let c0_i32_4590 : BitVec 32 := 0#32
  ![v4149.toNat, 32, 0]
def k0_dev127 (d0 : Dev nD) : Nat :=
  let c0_i32_4588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4587 : BitVec 32 := 1#32
  let v4331 : BitVec 32 := Scalar.muli v14 c1_i32_4587
  let v4332 : BitVec 32 := Scalar.addi c0_i32_4588 v4331
  v4332.toNat
def k0_off12 (d0 : Dev nD) (c0_i32_4396 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4395 : BitVec 32 := 16#32
  let v4150 : BitVec 32 := Scalar.addi v2 c16_i32_4395
  let v4151 : BitVec 32 := Scalar.subi v4150 c0_i32_4396
  let c16_i32_4397 : BitVec 32 := 16#32
  let c0_i32_4398 : BitVec 32 := 0#32
  let v4152 : BitVec 1 := Scalar.cmpi .eq c16_i32_4397 c0_i32_4398
  let c1_i32_4399 : BitVec 32 := 1#32
  let v4153 : BitVec 32 := Scalar.select v4152 c1_i32_4399 c16_i32_4397
  let v4154 : BitVec 32 := Scalar.remsi v4151 v4153
  let c0_i32_4401 : BitVec 32 := 0#32
  let v4156 : BitVec 1 := Scalar.cmpi .slt v4154 c0_i32_4401
  let c0_i32_4402 : BitVec 32 := 0#32
  let v4157 : BitVec 1 := Scalar.cmpi .slt v4153 c0_i32_4402
  let v4158 : BitVec 1 := Scalar.xori v4156 v4157
  let c0_i32_4400 : BitVec 32 := 0#32
  let v4155 : BitVec 1 := Scalar.cmpi .ne v4154 c0_i32_4400
  let v4159 : BitVec 1 := Scalar.andi v4158 v4155
  let v4160 : BitVec 32 := Scalar.addi v4154 v4153
  let v4161 : BitVec 32 := Scalar.select v4159 v4160 v4154
  let c32_i32_4597 : BitVec 32 := 32#32
  let c0_i32_4598 : BitVec 32 := 0#32
  ![v4161.toNat, 32, 0]
def k0_dev128 (d0 : Dev nD) : Nat :=
  let c0_i32_4596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4595 : BitVec 32 := 1#32
  let v4341 : BitVec 32 := Scalar.muli v25 c1_i32_4595
  let v4342 : BitVec 32 := Scalar.addi c0_i32_4596 v4341
  v4342.toNat
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4390 : Index := Scalar.indexCast v2
  let c48_4649 : Index := 48#32
  let c0_4650 : Index := 0#32
  ![v4390.toNat, 48, 0]
def k0_off14 (d0 : Dev nD) (c0_i32_4388 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4139 : BitVec 32 := Scalar.addi v2 c0_i32_4388
  let c16_i32_4389 : BitVec 32 := 16#32
  let c0_i32_4390 : BitVec 32 := 0#32
  let v4140 : BitVec 1 := Scalar.cmpi .eq c16_i32_4389 c0_i32_4390
  let c1_i32_4391 : BitVec 32 := 1#32
  let v4141 : BitVec 32 := Scalar.select v4140 c1_i32_4391 c16_i32_4389
  let v4142 : BitVec 32 := Scalar.remsi v4139 v4141
  let c0_i32_4393 : BitVec 32 := 0#32
  let v4144 : BitVec 1 := Scalar.cmpi .slt v4142 c0_i32_4393
  let c0_i32_4394 : BitVec 32 := 0#32
  let v4145 : BitVec 1 := Scalar.cmpi .slt v4141 c0_i32_4394
  let v4146 : BitVec 1 := Scalar.xori v4144 v4145
  let c0_i32_4392 : BitVec 32 := 0#32
  let v4143 : BitVec 1 := Scalar.cmpi .ne v4142 c0_i32_4392
  let v4147 : BitVec 1 := Scalar.andi v4146 v4143
  let v4148 : BitVec 32 := Scalar.addi v4142 v4141
  let v4149 : BitVec 32 := Scalar.select v4147 v4148 v4142
  let c48_i32_4655 : BitVec 32 := 48#32
  let c0_i32_4656 : BitVec 32 := 0#32
  ![v4149.toNat, 48, 0]
def k0_dev129 (d0 : Dev nD) : Nat :=
  let c0_i32_4654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4653 : BitVec 32 := 1#32
  let v4394 : BitVec 32 := Scalar.muli v14 c1_i32_4653
  let v4395 : BitVec 32 := Scalar.addi c0_i32_4654 v4394
  v4395.toNat
def k0_off15 (d0 : Dev nD) (c0_i32_4396 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4395 : BitVec 32 := 16#32
  let v4150 : BitVec 32 := Scalar.addi v2 c16_i32_4395
  let v4151 : BitVec 32 := Scalar.subi v4150 c0_i32_4396
  let c16_i32_4397 : BitVec 32 := 16#32
  let c0_i32_4398 : BitVec 32 := 0#32
  let v4152 : BitVec 1 := Scalar.cmpi .eq c16_i32_4397 c0_i32_4398
  let c1_i32_4399 : BitVec 32 := 1#32
  let v4153 : BitVec 32 := Scalar.select v4152 c1_i32_4399 c16_i32_4397
  let v4154 : BitVec 32 := Scalar.remsi v4151 v4153
  let c0_i32_4401 : BitVec 32 := 0#32
  let v4156 : BitVec 1 := Scalar.cmpi .slt v4154 c0_i32_4401
  let c0_i32_4402 : BitVec 32 := 0#32
  let v4157 : BitVec 1 := Scalar.cmpi .slt v4153 c0_i32_4402
  let v4158 : BitVec 1 := Scalar.xori v4156 v4157
  let c0_i32_4400 : BitVec 32 := 0#32
  let v4155 : BitVec 1 := Scalar.cmpi .ne v4154 c0_i32_4400
  let v4159 : BitVec 1 := Scalar.andi v4158 v4155
  let v4160 : BitVec 32 := Scalar.addi v4154 v4153
  let v4161 : BitVec 32 := Scalar.select v4159 v4160 v4154
  let c48_i32_4663 : BitVec 32 := 48#32
  let c0_i32_4664 : BitVec 32 := 0#32
  ![v4161.toNat, 48, 0]
def k0_dev130 (d0 : Dev nD) : Nat :=
  let c0_i32_4662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4661 : BitVec 32 := 1#32
  let v4404 : BitVec 32 := Scalar.muli v25 c1_i32_4661
  let v4405 : BitVec 32 := Scalar.addi c0_i32_4662 v4404
  v4405.toNat
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4453 : Index := Scalar.indexCast v2
  let c64_4715 : Index := 64#32
  let c0_4716 : Index := 0#32
  ![v4453.toNat, 64, 0]
def k0_off17 (d0 : Dev nD) (c0_i32_4388 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4139 : BitVec 32 := Scalar.addi v2 c0_i32_4388
  let c16_i32_4389 : BitVec 32 := 16#32
  let c0_i32_4390 : BitVec 32 := 0#32
  let v4140 : BitVec 1 := Scalar.cmpi .eq c16_i32_4389 c0_i32_4390
  let c1_i32_4391 : BitVec 32 := 1#32
  let v4141 : BitVec 32 := Scalar.select v4140 c1_i32_4391 c16_i32_4389
  let v4142 : BitVec 32 := Scalar.remsi v4139 v4141
  let c0_i32_4393 : BitVec 32 := 0#32
  let v4144 : BitVec 1 := Scalar.cmpi .slt v4142 c0_i32_4393
  let c0_i32_4394 : BitVec 32 := 0#32
  let v4145 : BitVec 1 := Scalar.cmpi .slt v4141 c0_i32_4394
  let v4146 : BitVec 1 := Scalar.xori v4144 v4145
  let c0_i32_4392 : BitVec 32 := 0#32
  let v4143 : BitVec 1 := Scalar.cmpi .ne v4142 c0_i32_4392
  let v4147 : BitVec 1 := Scalar.andi v4146 v4143
  let v4148 : BitVec 32 := Scalar.addi v4142 v4141
  let v4149 : BitVec 32 := Scalar.select v4147 v4148 v4142
  let c64_i32_4721 : BitVec 32 := 64#32
  let c0_i32_4722 : BitVec 32 := 0#32
  ![v4149.toNat, 64, 0]
def k0_dev131 (d0 : Dev nD) : Nat :=
  let c0_i32_4720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4719 : BitVec 32 := 1#32
  let v4457 : BitVec 32 := Scalar.muli v14 c1_i32_4719
  let v4458 : BitVec 32 := Scalar.addi c0_i32_4720 v4457
  v4458.toNat
def k0_off18 (d0 : Dev nD) (c0_i32_4396 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4395 : BitVec 32 := 16#32
  let v4150 : BitVec 32 := Scalar.addi v2 c16_i32_4395
  let v4151 : BitVec 32 := Scalar.subi v4150 c0_i32_4396
  let c16_i32_4397 : BitVec 32 := 16#32
  let c0_i32_4398 : BitVec 32 := 0#32
  let v4152 : BitVec 1 := Scalar.cmpi .eq c16_i32_4397 c0_i32_4398
  let c1_i32_4399 : BitVec 32 := 1#32
  let v4153 : BitVec 32 := Scalar.select v4152 c1_i32_4399 c16_i32_4397
  let v4154 : BitVec 32 := Scalar.remsi v4151 v4153
  let c0_i32_4401 : BitVec 32 := 0#32
  let v4156 : BitVec 1 := Scalar.cmpi .slt v4154 c0_i32_4401
  let c0_i32_4402 : BitVec 32 := 0#32
  let v4157 : BitVec 1 := Scalar.cmpi .slt v4153 c0_i32_4402
  let v4158 : BitVec 1 := Scalar.xori v4156 v4157
  let c0_i32_4400 : BitVec 32 := 0#32
  let v4155 : BitVec 1 := Scalar.cmpi .ne v4154 c0_i32_4400
  let v4159 : BitVec 1 := Scalar.andi v4158 v4155
  let v4160 : BitVec 32 := Scalar.addi v4154 v4153
  let v4161 : BitVec 32 := Scalar.select v4159 v4160 v4154
  let c64_i32_4729 : BitVec 32 := 64#32
  let c0_i32_4730 : BitVec 32 := 0#32
  ![v4161.toNat, 64, 0]
def k0_dev132 (d0 : Dev nD) : Nat :=
  let c0_i32_4728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4727 : BitVec 32 := 1#32
  let v4467 : BitVec 32 := Scalar.muli v25 c1_i32_4727
  let v4468 : BitVec 32 := Scalar.addi c0_i32_4728 v4467
  v4468.toNat
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4516 : Index := Scalar.indexCast v2
  let c80_4781 : Index := 80#32
  let c0_4782 : Index := 0#32
  ![v4516.toNat, 80, 0]
def k0_off20 (d0 : Dev nD) (c0_i32_4388 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4139 : BitVec 32 := Scalar.addi v2 c0_i32_4388
  let c16_i32_4389 : BitVec 32 := 16#32
  let c0_i32_4390 : BitVec 32 := 0#32
  let v4140 : BitVec 1 := Scalar.cmpi .eq c16_i32_4389 c0_i32_4390
  let c1_i32_4391 : BitVec 32 := 1#32
  let v4141 : BitVec 32 := Scalar.select v4140 c1_i32_4391 c16_i32_4389
  let v4142 : BitVec 32 := Scalar.remsi v4139 v4141
  let c0_i32_4393 : BitVec 32 := 0#32
  let v4144 : BitVec 1 := Scalar.cmpi .slt v4142 c0_i32_4393
  let c0_i32_4394 : BitVec 32 := 0#32
  let v4145 : BitVec 1 := Scalar.cmpi .slt v4141 c0_i32_4394
  let v4146 : BitVec 1 := Scalar.xori v4144 v4145
  let c0_i32_4392 : BitVec 32 := 0#32
  let v4143 : BitVec 1 := Scalar.cmpi .ne v4142 c0_i32_4392
  let v4147 : BitVec 1 := Scalar.andi v4146 v4143
  let v4148 : BitVec 32 := Scalar.addi v4142 v4141
  let v4149 : BitVec 32 := Scalar.select v4147 v4148 v4142
  let c80_i32_4787 : BitVec 32 := 80#32
  let c0_i32_4788 : BitVec 32 := 0#32
  ![v4149.toNat, 80, 0]
def k0_dev133 (d0 : Dev nD) : Nat :=
  let c0_i32_4786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4785 : BitVec 32 := 1#32
  let v4520 : BitVec 32 := Scalar.muli v14 c1_i32_4785
  let v4521 : BitVec 32 := Scalar.addi c0_i32_4786 v4520
  v4521.toNat
def k0_off21 (d0 : Dev nD) (c0_i32_4396 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4395 : BitVec 32 := 16#32
  let v4150 : BitVec 32 := Scalar.addi v2 c16_i32_4395
  let v4151 : BitVec 32 := Scalar.subi v4150 c0_i32_4396
  let c16_i32_4397 : BitVec 32 := 16#32
  let c0_i32_4398 : BitVec 32 := 0#32
  let v4152 : BitVec 1 := Scalar.cmpi .eq c16_i32_4397 c0_i32_4398
  let c1_i32_4399 : BitVec 32 := 1#32
  let v4153 : BitVec 32 := Scalar.select v4152 c1_i32_4399 c16_i32_4397
  let v4154 : BitVec 32 := Scalar.remsi v4151 v4153
  let c0_i32_4401 : BitVec 32 := 0#32
  let v4156 : BitVec 1 := Scalar.cmpi .slt v4154 c0_i32_4401
  let c0_i32_4402 : BitVec 32 := 0#32
  let v4157 : BitVec 1 := Scalar.cmpi .slt v4153 c0_i32_4402
  let v4158 : BitVec 1 := Scalar.xori v4156 v4157
  let c0_i32_4400 : BitVec 32 := 0#32
  let v4155 : BitVec 1 := Scalar.cmpi .ne v4154 c0_i32_4400
  let v4159 : BitVec 1 := Scalar.andi v4158 v4155
  let v4160 : BitVec 32 := Scalar.addi v4154 v4153
  let v4161 : BitVec 32 := Scalar.select v4159 v4160 v4154
  let c80_i32_4795 : BitVec 32 := 80#32
  let c0_i32_4796 : BitVec 32 := 0#32
  ![v4161.toNat, 80, 0]
def k0_dev134 (d0 : Dev nD) : Nat :=
  let c0_i32_4794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4793 : BitVec 32 := 1#32
  let v4530 : BitVec 32 := Scalar.muli v25 c1_i32_4793
  let v4531 : BitVec 32 := Scalar.addi c0_i32_4794 v4530
  v4531.toNat
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4579 : Index := Scalar.indexCast v2
  let c96_4847 : Index := 96#32
  let c0_4848 : Index := 0#32
  ![v4579.toNat, 96, 0]
def k0_off23 (d0 : Dev nD) (c0_i32_4388 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4139 : BitVec 32 := Scalar.addi v2 c0_i32_4388
  let c16_i32_4389 : BitVec 32 := 16#32
  let c0_i32_4390 : BitVec 32 := 0#32
  let v4140 : BitVec 1 := Scalar.cmpi .eq c16_i32_4389 c0_i32_4390
  let c1_i32_4391 : BitVec 32 := 1#32
  let v4141 : BitVec 32 := Scalar.select v4140 c1_i32_4391 c16_i32_4389
  let v4142 : BitVec 32 := Scalar.remsi v4139 v4141
  let c0_i32_4393 : BitVec 32 := 0#32
  let v4144 : BitVec 1 := Scalar.cmpi .slt v4142 c0_i32_4393
  let c0_i32_4394 : BitVec 32 := 0#32
  let v4145 : BitVec 1 := Scalar.cmpi .slt v4141 c0_i32_4394
  let v4146 : BitVec 1 := Scalar.xori v4144 v4145
  let c0_i32_4392 : BitVec 32 := 0#32
  let v4143 : BitVec 1 := Scalar.cmpi .ne v4142 c0_i32_4392
  let v4147 : BitVec 1 := Scalar.andi v4146 v4143
  let v4148 : BitVec 32 := Scalar.addi v4142 v4141
  let v4149 : BitVec 32 := Scalar.select v4147 v4148 v4142
  let c96_i32_4853 : BitVec 32 := 96#32
  let c0_i32_4854 : BitVec 32 := 0#32
  ![v4149.toNat, 96, 0]
def k0_dev135 (d0 : Dev nD) : Nat :=
  let c0_i32_4852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4851 : BitVec 32 := 1#32
  let v4583 : BitVec 32 := Scalar.muli v14 c1_i32_4851
  let v4584 : BitVec 32 := Scalar.addi c0_i32_4852 v4583
  v4584.toNat
def k0_off24 (d0 : Dev nD) (c0_i32_4396 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4395 : BitVec 32 := 16#32
  let v4150 : BitVec 32 := Scalar.addi v2 c16_i32_4395
  let v4151 : BitVec 32 := Scalar.subi v4150 c0_i32_4396
  let c16_i32_4397 : BitVec 32 := 16#32
  let c0_i32_4398 : BitVec 32 := 0#32
  let v4152 : BitVec 1 := Scalar.cmpi .eq c16_i32_4397 c0_i32_4398
  let c1_i32_4399 : BitVec 32 := 1#32
  let v4153 : BitVec 32 := Scalar.select v4152 c1_i32_4399 c16_i32_4397
  let v4154 : BitVec 32 := Scalar.remsi v4151 v4153
  let c0_i32_4401 : BitVec 32 := 0#32
  let v4156 : BitVec 1 := Scalar.cmpi .slt v4154 c0_i32_4401
  let c0_i32_4402 : BitVec 32 := 0#32
  let v4157 : BitVec 1 := Scalar.cmpi .slt v4153 c0_i32_4402
  let v4158 : BitVec 1 := Scalar.xori v4156 v4157
  let c0_i32_4400 : BitVec 32 := 0#32
  let v4155 : BitVec 1 := Scalar.cmpi .ne v4154 c0_i32_4400
  let v4159 : BitVec 1 := Scalar.andi v4158 v4155
  let v4160 : BitVec 32 := Scalar.addi v4154 v4153
  let v4161 : BitVec 32 := Scalar.select v4159 v4160 v4154
  let c96_i32_4861 : BitVec 32 := 96#32
  let c0_i32_4862 : BitVec 32 := 0#32
  ![v4161.toNat, 96, 0]
def k0_dev136 (d0 : Dev nD) : Nat :=
  let c0_i32_4860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4859 : BitVec 32 := 1#32
  let v4593 : BitVec 32 := Scalar.muli v25 c1_i32_4859
  let v4594 : BitVec 32 := Scalar.addi c0_i32_4860 v4593
  v4594.toNat
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4642 : Index := Scalar.indexCast v2
  let c112_4913 : Index := 112#32
  let c0_4914 : Index := 0#32
  ![v4642.toNat, 112, 0]
def k0_off26 (d0 : Dev nD) (c0_i32_4388 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4139 : BitVec 32 := Scalar.addi v2 c0_i32_4388
  let c16_i32_4389 : BitVec 32 := 16#32
  let c0_i32_4390 : BitVec 32 := 0#32
  let v4140 : BitVec 1 := Scalar.cmpi .eq c16_i32_4389 c0_i32_4390
  let c1_i32_4391 : BitVec 32 := 1#32
  let v4141 : BitVec 32 := Scalar.select v4140 c1_i32_4391 c16_i32_4389
  let v4142 : BitVec 32 := Scalar.remsi v4139 v4141
  let c0_i32_4393 : BitVec 32 := 0#32
  let v4144 : BitVec 1 := Scalar.cmpi .slt v4142 c0_i32_4393
  let c0_i32_4394 : BitVec 32 := 0#32
  let v4145 : BitVec 1 := Scalar.cmpi .slt v4141 c0_i32_4394
  let v4146 : BitVec 1 := Scalar.xori v4144 v4145
  let c0_i32_4392 : BitVec 32 := 0#32
  let v4143 : BitVec 1 := Scalar.cmpi .ne v4142 c0_i32_4392
  let v4147 : BitVec 1 := Scalar.andi v4146 v4143
  let v4148 : BitVec 32 := Scalar.addi v4142 v4141
  let v4149 : BitVec 32 := Scalar.select v4147 v4148 v4142
  let c112_i32_4919 : BitVec 32 := 112#32
  let c0_i32_4920 : BitVec 32 := 0#32
  ![v4149.toNat, 112, 0]
def k0_dev137 (d0 : Dev nD) : Nat :=
  let c0_i32_4918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4917 : BitVec 32 := 1#32
  let v4646 : BitVec 32 := Scalar.muli v14 c1_i32_4917
  let v4647 : BitVec 32 := Scalar.addi c0_i32_4918 v4646
  v4647.toNat
def k0_off27 (d0 : Dev nD) (c0_i32_4396 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4395 : BitVec 32 := 16#32
  let v4150 : BitVec 32 := Scalar.addi v2 c16_i32_4395
  let v4151 : BitVec 32 := Scalar.subi v4150 c0_i32_4396
  let c16_i32_4397 : BitVec 32 := 16#32
  let c0_i32_4398 : BitVec 32 := 0#32
  let v4152 : BitVec 1 := Scalar.cmpi .eq c16_i32_4397 c0_i32_4398
  let c1_i32_4399 : BitVec 32 := 1#32
  let v4153 : BitVec 32 := Scalar.select v4152 c1_i32_4399 c16_i32_4397
  let v4154 : BitVec 32 := Scalar.remsi v4151 v4153
  let c0_i32_4401 : BitVec 32 := 0#32
  let v4156 : BitVec 1 := Scalar.cmpi .slt v4154 c0_i32_4401
  let c0_i32_4402 : BitVec 32 := 0#32
  let v4157 : BitVec 1 := Scalar.cmpi .slt v4153 c0_i32_4402
  let v4158 : BitVec 1 := Scalar.xori v4156 v4157
  let c0_i32_4400 : BitVec 32 := 0#32
  let v4155 : BitVec 1 := Scalar.cmpi .ne v4154 c0_i32_4400
  let v4159 : BitVec 1 := Scalar.andi v4158 v4155
  let v4160 : BitVec 32 := Scalar.addi v4154 v4153
  let v4161 : BitVec 32 := Scalar.select v4159 v4160 v4154
  let c112_i32_4927 : BitVec 32 := 112#32
  let c0_i32_4928 : BitVec 32 := 0#32
  ![v4161.toNat, 112, 0]
def k0_dev138 (d0 : Dev nD) : Nat :=
  let c0_i32_4926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4925 : BitVec 32 := 1#32
  let v4656 : BitVec 32 := Scalar.muli v25 c1_i32_4925
  let v4657 : BitVec 32 := Scalar.addi c0_i32_4926 v4656
  v4657.toNat
def k0_dev139 (d0 : Dev nD) : Nat :=
  let c0_i32_4964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4963 : BitVec 32 := 1#32
  let v4703 : BitVec 32 := Scalar.muli v14 c1_i32_4963
  let v4704 : BitVec 32 := Scalar.addi c0_i32_4964 v4703
  v4704.toNat
def k0_dev140 (d0 : Dev nD) : Nat :=
  let c0_i32_4987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4986 : BitVec 32 := 1#32
  let v4727 : BitVec 32 := Scalar.muli v25 c1_i32_4986
  let v4728 : BitVec 32 := Scalar.addi c0_i32_4987 v4727
  v4728.toNat
def k0_dev141 (d0 : Dev nD) : Nat :=
  let c0_i32_5010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5009 : BitVec 32 := 1#32
  let v4751 : BitVec 32 := Scalar.muli v14 c1_i32_5009
  let v4752 : BitVec 32 := Scalar.addi c0_i32_5010 v4751
  v4752.toNat
def k0_dev142 (d0 : Dev nD) : Nat :=
  let c0_i32_5033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5032 : BitVec 32 := 1#32
  let v4775 : BitVec 32 := Scalar.muli v25 c1_i32_5032
  let v4776 : BitVec 32 := Scalar.addi c0_i32_5033 v4775
  v4776.toNat
def k0_dev143 (d0 : Dev nD) : Nat :=
  let c0_i32_5056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5055 : BitVec 32 := 1#32
  let v4799 : BitVec 32 := Scalar.muli v14 c1_i32_5055
  let v4800 : BitVec 32 := Scalar.addi c0_i32_5056 v4799
  v4800.toNat
def k0_dev144 (d0 : Dev nD) : Nat :=
  let c0_i32_5079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5078 : BitVec 32 := 1#32
  let v4823 : BitVec 32 := Scalar.muli v25 c1_i32_5078
  let v4824 : BitVec 32 := Scalar.addi c0_i32_5079 v4823
  v4824.toNat
def k0_dev145 (d0 : Dev nD) : Nat :=
  let c0_i32_5102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5101 : BitVec 32 := 1#32
  let v4847 : BitVec 32 := Scalar.muli v14 c1_i32_5101
  let v4848 : BitVec 32 := Scalar.addi c0_i32_5102 v4847
  v4848.toNat
def k0_dev146 (d0 : Dev nD) : Nat :=
  let c0_i32_5125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5124 : BitVec 32 := 1#32
  let v4871 : BitVec 32 := Scalar.muli v25 c1_i32_5124
  let v4872 : BitVec 32 := Scalar.addi c0_i32_5125 v4871
  v4872.toNat
def k0_dev147 (d0 : Dev nD) : Nat :=
  let c0_i32_5148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5147 : BitVec 32 := 1#32
  let v4895 : BitVec 32 := Scalar.muli v14 c1_i32_5147
  let v4896 : BitVec 32 := Scalar.addi c0_i32_5148 v4895
  v4896.toNat
def k0_dev148 (d0 : Dev nD) : Nat :=
  let c0_i32_5171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5170 : BitVec 32 := 1#32
  let v4919 : BitVec 32 := Scalar.muli v25 c1_i32_5170
  let v4920 : BitVec 32 := Scalar.addi c0_i32_5171 v4919
  v4920.toNat
def k0_dev149 (d0 : Dev nD) : Nat :=
  let c0_i32_5194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5193 : BitVec 32 := 1#32
  let v4943 : BitVec 32 := Scalar.muli v14 c1_i32_5193
  let v4944 : BitVec 32 := Scalar.addi c0_i32_5194 v4943
  v4944.toNat
def k0_dev150 (d0 : Dev nD) : Nat :=
  let c0_i32_5217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5216 : BitVec 32 := 1#32
  let v4967 : BitVec 32 := Scalar.muli v25 c1_i32_5216
  let v4968 : BitVec 32 := Scalar.addi c0_i32_5217 v4967
  v4968.toNat
def k0_dev151 (d0 : Dev nD) : Nat :=
  let c0_i32_5240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5239 : BitVec 32 := 1#32
  let v4991 : BitVec 32 := Scalar.muli v14 c1_i32_5239
  let v4992 : BitVec 32 := Scalar.addi c0_i32_5240 v4991
  v4992.toNat
def k0_dev152 (d0 : Dev nD) : Nat :=
  let c0_i32_5263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5262 : BitVec 32 := 1#32
  let v5015 : BitVec 32 := Scalar.muli v25 c1_i32_5262
  let v5016 : BitVec 32 := Scalar.addi c0_i32_5263 v5015
  v5016.toNat
def k0_dev153 (d0 : Dev nD) : Nat :=
  let c0_i32_5286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5285 : BitVec 32 := 1#32
  let v5039 : BitVec 32 := Scalar.muli v14 c1_i32_5285
  let v5040 : BitVec 32 := Scalar.addi c0_i32_5286 v5039
  v5040.toNat
def k0_dev154 (d0 : Dev nD) : Nat :=
  let c0_i32_5309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5308 : BitVec 32 := 1#32
  let v5063 : BitVec 32 := Scalar.muli v25 c1_i32_5308
  let v5064 : BitVec 32 := Scalar.addi c0_i32_5309 v5063
  v5064.toNat
def k0_dev155 (d0 : Dev nD) : Nat :=
  let c0_i32_5347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5346 : BitVec 32 := 1#32
  let v5110 : BitVec 32 := Scalar.muli v14 c1_i32_5346
  let v5111 : BitVec 32 := Scalar.addi c0_i32_5347 v5110
  v5111.toNat
def k0_dev156 (d0 : Dev nD) : Nat :=
  let c0_i32_5370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5369 : BitVec 32 := 1#32
  let v5134 : BitVec 32 := Scalar.muli v25 c1_i32_5369
  let v5135 : BitVec 32 := Scalar.addi c0_i32_5370 v5134
  v5135.toNat
def k0_dev157 (d0 : Dev nD) : Nat :=
  let c0_i32_5393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5392 : BitVec 32 := 1#32
  let v5158 : BitVec 32 := Scalar.muli v14 c1_i32_5392
  let v5159 : BitVec 32 := Scalar.addi c0_i32_5393 v5158
  v5159.toNat
def k0_dev158 (d0 : Dev nD) : Nat :=
  let c0_i32_5416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5415 : BitVec 32 := 1#32
  let v5182 : BitVec 32 := Scalar.muli v25 c1_i32_5415
  let v5183 : BitVec 32 := Scalar.addi c0_i32_5416 v5182
  v5183.toNat
def k0_dev159 (d0 : Dev nD) : Nat :=
  let c0_i32_5439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5438 : BitVec 32 := 1#32
  let v5206 : BitVec 32 := Scalar.muli v14 c1_i32_5438
  let v5207 : BitVec 32 := Scalar.addi c0_i32_5439 v5206
  v5207.toNat
def k0_dev160 (d0 : Dev nD) : Nat :=
  let c0_i32_5462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5461 : BitVec 32 := 1#32
  let v5230 : BitVec 32 := Scalar.muli v25 c1_i32_5461
  let v5231 : BitVec 32 := Scalar.addi c0_i32_5462 v5230
  v5231.toNat
def k0_dev161 (d0 : Dev nD) : Nat :=
  let c0_i32_5485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5484 : BitVec 32 := 1#32
  let v5254 : BitVec 32 := Scalar.muli v14 c1_i32_5484
  let v5255 : BitVec 32 := Scalar.addi c0_i32_5485 v5254
  v5255.toNat
def k0_dev162 (d0 : Dev nD) : Nat :=
  let c0_i32_5508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5507 : BitVec 32 := 1#32
  let v5278 : BitVec 32 := Scalar.muli v25 c1_i32_5507
  let v5279 : BitVec 32 := Scalar.addi c0_i32_5508 v5278
  v5279.toNat
def k0_dev163 (d0 : Dev nD) : Nat :=
  let c0_i32_5531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5530 : BitVec 32 := 1#32
  let v5302 : BitVec 32 := Scalar.muli v14 c1_i32_5530
  let v5303 : BitVec 32 := Scalar.addi c0_i32_5531 v5302
  v5303.toNat
def k0_dev164 (d0 : Dev nD) : Nat :=
  let c0_i32_5554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5553 : BitVec 32 := 1#32
  let v5326 : BitVec 32 := Scalar.muli v25 c1_i32_5553
  let v5327 : BitVec 32 := Scalar.addi c0_i32_5554 v5326
  v5327.toNat
def k0_dev165 (d0 : Dev nD) : Nat :=
  let c0_i32_5577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5576 : BitVec 32 := 1#32
  let v5350 : BitVec 32 := Scalar.muli v14 c1_i32_5576
  let v5351 : BitVec 32 := Scalar.addi c0_i32_5577 v5350
  v5351.toNat
def k0_dev166 (d0 : Dev nD) : Nat :=
  let c0_i32_5600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5599 : BitVec 32 := 1#32
  let v5374 : BitVec 32 := Scalar.muli v25 c1_i32_5599
  let v5375 : BitVec 32 := Scalar.addi c0_i32_5600 v5374
  v5375.toNat
def k0_dev167 (d0 : Dev nD) : Nat :=
  let c0_i32_5623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5622 : BitVec 32 := 1#32
  let v5398 : BitVec 32 := Scalar.muli v14 c1_i32_5622
  let v5399 : BitVec 32 := Scalar.addi c0_i32_5623 v5398
  v5399.toNat
def k0_dev168 (d0 : Dev nD) : Nat :=
  let c0_i32_5646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5645 : BitVec 32 := 1#32
  let v5422 : BitVec 32 := Scalar.muli v25 c1_i32_5645
  let v5423 : BitVec 32 := Scalar.addi c0_i32_5646 v5422
  v5423.toNat
def k0_dev169 (d0 : Dev nD) : Nat :=
  let c0_i32_5669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5668 : BitVec 32 := 1#32
  let v5446 : BitVec 32 := Scalar.muli v14 c1_i32_5668
  let v5447 : BitVec 32 := Scalar.addi c0_i32_5669 v5446
  v5447.toNat
def k0_dev170 (d0 : Dev nD) : Nat :=
  let c0_i32_5692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5691 : BitVec 32 := 1#32
  let v5470 : BitVec 32 := Scalar.muli v25 c1_i32_5691
  let v5471 : BitVec 32 := Scalar.addi c0_i32_5692 v5470
  v5471.toNat
def k0_dev171 (d0 : Dev nD) : Nat :=
  let c0_i32_5730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5729 : BitVec 32 := 1#32
  let v5517 : BitVec 32 := Scalar.muli v14 c1_i32_5729
  let v5518 : BitVec 32 := Scalar.addi c0_i32_5730 v5517
  v5518.toNat
def k0_dev172 (d0 : Dev nD) : Nat :=
  let c0_i32_5753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5752 : BitVec 32 := 1#32
  let v5541 : BitVec 32 := Scalar.muli v25 c1_i32_5752
  let v5542 : BitVec 32 := Scalar.addi c0_i32_5753 v5541
  v5542.toNat
def k0_dev173 (d0 : Dev nD) : Nat :=
  let c0_i32_5776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5775 : BitVec 32 := 1#32
  let v5565 : BitVec 32 := Scalar.muli v14 c1_i32_5775
  let v5566 : BitVec 32 := Scalar.addi c0_i32_5776 v5565
  v5566.toNat
def k0_dev174 (d0 : Dev nD) : Nat :=
  let c0_i32_5799 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5798 : BitVec 32 := 1#32
  let v5589 : BitVec 32 := Scalar.muli v25 c1_i32_5798
  let v5590 : BitVec 32 := Scalar.addi c0_i32_5799 v5589
  v5590.toNat
def k0_dev175 (d0 : Dev nD) : Nat :=
  let c0_i32_5822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5821 : BitVec 32 := 1#32
  let v5613 : BitVec 32 := Scalar.muli v14 c1_i32_5821
  let v5614 : BitVec 32 := Scalar.addi c0_i32_5822 v5613
  v5614.toNat
def k0_dev176 (d0 : Dev nD) : Nat :=
  let c0_i32_5845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5844 : BitVec 32 := 1#32
  let v5637 : BitVec 32 := Scalar.muli v25 c1_i32_5844
  let v5638 : BitVec 32 := Scalar.addi c0_i32_5845 v5637
  v5638.toNat
def k0_dev177 (d0 : Dev nD) : Nat :=
  let c0_i32_5868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5867 : BitVec 32 := 1#32
  let v5661 : BitVec 32 := Scalar.muli v14 c1_i32_5867
  let v5662 : BitVec 32 := Scalar.addi c0_i32_5868 v5661
  v5662.toNat
def k0_dev178 (d0 : Dev nD) : Nat :=
  let c0_i32_5891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5890 : BitVec 32 := 1#32
  let v5685 : BitVec 32 := Scalar.muli v25 c1_i32_5890
  let v5686 : BitVec 32 := Scalar.addi c0_i32_5891 v5685
  v5686.toNat
def k0_dev179 (d0 : Dev nD) : Nat :=
  let c0_i32_5914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5913 : BitVec 32 := 1#32
  let v5709 : BitVec 32 := Scalar.muli v14 c1_i32_5913
  let v5710 : BitVec 32 := Scalar.addi c0_i32_5914 v5709
  v5710.toNat
def k0_dev180 (d0 : Dev nD) : Nat :=
  let c0_i32_5937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5936 : BitVec 32 := 1#32
  let v5733 : BitVec 32 := Scalar.muli v25 c1_i32_5936
  let v5734 : BitVec 32 := Scalar.addi c0_i32_5937 v5733
  v5734.toNat
def k0_dev181 (d0 : Dev nD) : Nat :=
  let c0_i32_5960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_5959 : BitVec 32 := 1#32
  let v5757 : BitVec 32 := Scalar.muli v14 c1_i32_5959
  let v5758 : BitVec 32 := Scalar.addi c0_i32_5960 v5757
  v5758.toNat
def k0_dev182 (d0 : Dev nD) : Nat :=
  let c0_i32_5983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_5982 : BitVec 32 := 1#32
  let v5781 : BitVec 32 := Scalar.muli v25 c1_i32_5982
  let v5782 : BitVec 32 := Scalar.addi c0_i32_5983 v5781
  v5782.toNat
def k0_dev183 (d0 : Dev nD) : Nat :=
  let c0_i32_6006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6005 : BitVec 32 := 1#32
  let v5805 : BitVec 32 := Scalar.muli v14 c1_i32_6005
  let v5806 : BitVec 32 := Scalar.addi c0_i32_6006 v5805
  v5806.toNat
def k0_dev184 (d0 : Dev nD) : Nat :=
  let c0_i32_6029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6028 : BitVec 32 := 1#32
  let v5829 : BitVec 32 := Scalar.muli v25 c1_i32_6028
  let v5830 : BitVec 32 := Scalar.addi c0_i32_6029 v5829
  v5830.toNat
def k0_dev185 (d0 : Dev nD) : Nat :=
  let c0_i32_6052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6051 : BitVec 32 := 1#32
  let v5853 : BitVec 32 := Scalar.muli v14 c1_i32_6051
  let v5854 : BitVec 32 := Scalar.addi c0_i32_6052 v5853
  v5854.toNat
def k0_dev186 (d0 : Dev nD) : Nat :=
  let c0_i32_6075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6074 : BitVec 32 := 1#32
  let v5877 : BitVec 32 := Scalar.muli v25 c1_i32_6074
  let v5878 : BitVec 32 := Scalar.addi c0_i32_6075 v5877
  v5878.toNat
def k0_dev187 (d0 : Dev nD) : Nat :=
  let c0_i32_6113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6112 : BitVec 32 := 1#32
  let v5924 : BitVec 32 := Scalar.muli v14 c1_i32_6112
  let v5925 : BitVec 32 := Scalar.addi c0_i32_6113 v5924
  v5925.toNat
def k0_dev188 (d0 : Dev nD) : Nat :=
  let c0_i32_6136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6135 : BitVec 32 := 1#32
  let v5948 : BitVec 32 := Scalar.muli v25 c1_i32_6135
  let v5949 : BitVec 32 := Scalar.addi c0_i32_6136 v5948
  v5949.toNat
def k0_dev189 (d0 : Dev nD) : Nat :=
  let c0_i32_6159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6158 : BitVec 32 := 1#32
  let v5972 : BitVec 32 := Scalar.muli v14 c1_i32_6158
  let v5973 : BitVec 32 := Scalar.addi c0_i32_6159 v5972
  v5973.toNat
def k0_dev190 (d0 : Dev nD) : Nat :=
  let c0_i32_6182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6181 : BitVec 32 := 1#32
  let v5996 : BitVec 32 := Scalar.muli v25 c1_i32_6181
  let v5997 : BitVec 32 := Scalar.addi c0_i32_6182 v5996
  v5997.toNat
def k0_dev191 (d0 : Dev nD) : Nat :=
  let c0_i32_6205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6204 : BitVec 32 := 1#32
  let v6020 : BitVec 32 := Scalar.muli v14 c1_i32_6204
  let v6021 : BitVec 32 := Scalar.addi c0_i32_6205 v6020
  v6021.toNat
def k0_dev192 (d0 : Dev nD) : Nat :=
  let c0_i32_6228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6227 : BitVec 32 := 1#32
  let v6044 : BitVec 32 := Scalar.muli v25 c1_i32_6227
  let v6045 : BitVec 32 := Scalar.addi c0_i32_6228 v6044
  v6045.toNat
def k0_dev193 (d0 : Dev nD) : Nat :=
  let c0_i32_6251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6250 : BitVec 32 := 1#32
  let v6068 : BitVec 32 := Scalar.muli v14 c1_i32_6250
  let v6069 : BitVec 32 := Scalar.addi c0_i32_6251 v6068
  v6069.toNat
def k0_dev194 (d0 : Dev nD) : Nat :=
  let c0_i32_6274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6273 : BitVec 32 := 1#32
  let v6092 : BitVec 32 := Scalar.muli v25 c1_i32_6273
  let v6093 : BitVec 32 := Scalar.addi c0_i32_6274 v6092
  v6093.toNat
def k0_dev195 (d0 : Dev nD) : Nat :=
  let c0_i32_6297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6296 : BitVec 32 := 1#32
  let v6116 : BitVec 32 := Scalar.muli v14 c1_i32_6296
  let v6117 : BitVec 32 := Scalar.addi c0_i32_6297 v6116
  v6117.toNat
def k0_dev196 (d0 : Dev nD) : Nat :=
  let c0_i32_6320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6319 : BitVec 32 := 1#32
  let v6140 : BitVec 32 := Scalar.muli v25 c1_i32_6319
  let v6141 : BitVec 32 := Scalar.addi c0_i32_6320 v6140
  v6141.toNat
def k0_dev197 (d0 : Dev nD) : Nat :=
  let c0_i32_6343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6342 : BitVec 32 := 1#32
  let v6164 : BitVec 32 := Scalar.muli v14 c1_i32_6342
  let v6165 : BitVec 32 := Scalar.addi c0_i32_6343 v6164
  v6165.toNat
def k0_dev198 (d0 : Dev nD) : Nat :=
  let c0_i32_6366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6365 : BitVec 32 := 1#32
  let v6188 : BitVec 32 := Scalar.muli v25 c1_i32_6365
  let v6189 : BitVec 32 := Scalar.addi c0_i32_6366 v6188
  v6189.toNat
def k0_dev199 (d0 : Dev nD) : Nat :=
  let c0_i32_6389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6388 : BitVec 32 := 1#32
  let v6212 : BitVec 32 := Scalar.muli v14 c1_i32_6388
  let v6213 : BitVec 32 := Scalar.addi c0_i32_6389 v6212
  v6213.toNat
def k0_dev200 (d0 : Dev nD) : Nat :=
  let c0_i32_6412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6411 : BitVec 32 := 1#32
  let v6236 : BitVec 32 := Scalar.muli v25 c1_i32_6411
  let v6237 : BitVec 32 := Scalar.addi c0_i32_6412 v6236
  v6237.toNat
def k0_dev201 (d0 : Dev nD) : Nat :=
  let c0_i32_6435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6434 : BitVec 32 := 1#32
  let v6260 : BitVec 32 := Scalar.muli v14 c1_i32_6434
  let v6261 : BitVec 32 := Scalar.addi c0_i32_6435 v6260
  v6261.toNat
def k0_dev202 (d0 : Dev nD) : Nat :=
  let c0_i32_6458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6457 : BitVec 32 := 1#32
  let v6284 : BitVec 32 := Scalar.muli v25 c1_i32_6457
  let v6285 : BitVec 32 := Scalar.addi c0_i32_6458 v6284
  v6285.toNat
def k0_dev203 (d0 : Dev nD) : Nat :=
  let c0_i32_6496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6495 : BitVec 32 := 1#32
  let v6331 : BitVec 32 := Scalar.muli v14 c1_i32_6495
  let v6332 : BitVec 32 := Scalar.addi c0_i32_6496 v6331
  v6332.toNat
def k0_dev204 (d0 : Dev nD) : Nat :=
  let c0_i32_6519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6518 : BitVec 32 := 1#32
  let v6355 : BitVec 32 := Scalar.muli v25 c1_i32_6518
  let v6356 : BitVec 32 := Scalar.addi c0_i32_6519 v6355
  v6356.toNat
def k0_dev205 (d0 : Dev nD) : Nat :=
  let c0_i32_6542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6541 : BitVec 32 := 1#32
  let v6379 : BitVec 32 := Scalar.muli v14 c1_i32_6541
  let v6380 : BitVec 32 := Scalar.addi c0_i32_6542 v6379
  v6380.toNat
def k0_dev206 (d0 : Dev nD) : Nat :=
  let c0_i32_6565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6564 : BitVec 32 := 1#32
  let v6403 : BitVec 32 := Scalar.muli v25 c1_i32_6564
  let v6404 : BitVec 32 := Scalar.addi c0_i32_6565 v6403
  v6404.toNat
def k0_dev207 (d0 : Dev nD) : Nat :=
  let c0_i32_6588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6587 : BitVec 32 := 1#32
  let v6427 : BitVec 32 := Scalar.muli v14 c1_i32_6587
  let v6428 : BitVec 32 := Scalar.addi c0_i32_6588 v6427
  v6428.toNat
def k0_dev208 (d0 : Dev nD) : Nat :=
  let c0_i32_6611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6610 : BitVec 32 := 1#32
  let v6451 : BitVec 32 := Scalar.muli v25 c1_i32_6610
  let v6452 : BitVec 32 := Scalar.addi c0_i32_6611 v6451
  v6452.toNat
def k0_dev209 (d0 : Dev nD) : Nat :=
  let c0_i32_6634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6633 : BitVec 32 := 1#32
  let v6475 : BitVec 32 := Scalar.muli v14 c1_i32_6633
  let v6476 : BitVec 32 := Scalar.addi c0_i32_6634 v6475
  v6476.toNat
def k0_dev210 (d0 : Dev nD) : Nat :=
  let c0_i32_6657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6656 : BitVec 32 := 1#32
  let v6499 : BitVec 32 := Scalar.muli v25 c1_i32_6656
  let v6500 : BitVec 32 := Scalar.addi c0_i32_6657 v6499
  v6500.toNat
def k0_dev211 (d0 : Dev nD) : Nat :=
  let c0_i32_6680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6679 : BitVec 32 := 1#32
  let v6523 : BitVec 32 := Scalar.muli v14 c1_i32_6679
  let v6524 : BitVec 32 := Scalar.addi c0_i32_6680 v6523
  v6524.toNat
def k0_dev212 (d0 : Dev nD) : Nat :=
  let c0_i32_6703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6702 : BitVec 32 := 1#32
  let v6547 : BitVec 32 := Scalar.muli v25 c1_i32_6702
  let v6548 : BitVec 32 := Scalar.addi c0_i32_6703 v6547
  v6548.toNat
def k0_dev213 (d0 : Dev nD) : Nat :=
  let c0_i32_6726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6725 : BitVec 32 := 1#32
  let v6571 : BitVec 32 := Scalar.muli v14 c1_i32_6725
  let v6572 : BitVec 32 := Scalar.addi c0_i32_6726 v6571
  v6572.toNat
def k0_dev214 (d0 : Dev nD) : Nat :=
  let c0_i32_6749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6748 : BitVec 32 := 1#32
  let v6595 : BitVec 32 := Scalar.muli v25 c1_i32_6748
  let v6596 : BitVec 32 := Scalar.addi c0_i32_6749 v6595
  v6596.toNat
def k0_dev215 (d0 : Dev nD) : Nat :=
  let c0_i32_6772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6771 : BitVec 32 := 1#32
  let v6619 : BitVec 32 := Scalar.muli v14 c1_i32_6771
  let v6620 : BitVec 32 := Scalar.addi c0_i32_6772 v6619
  v6620.toNat
def k0_dev216 (d0 : Dev nD) : Nat :=
  let c0_i32_6795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6794 : BitVec 32 := 1#32
  let v6643 : BitVec 32 := Scalar.muli v25 c1_i32_6794
  let v6644 : BitVec 32 := Scalar.addi c0_i32_6795 v6643
  v6644.toNat
def k0_dev217 (d0 : Dev nD) : Nat :=
  let c0_i32_6818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6817 : BitVec 32 := 1#32
  let v6667 : BitVec 32 := Scalar.muli v14 c1_i32_6817
  let v6668 : BitVec 32 := Scalar.addi c0_i32_6818 v6667
  v6668.toNat
def k0_dev218 (d0 : Dev nD) : Nat :=
  let c0_i32_6841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6840 : BitVec 32 := 1#32
  let v6691 : BitVec 32 := Scalar.muli v25 c1_i32_6840
  let v6692 : BitVec 32 := Scalar.addi c0_i32_6841 v6691
  v6692.toNat
def k0_dev219 (d0 : Dev nD) : Nat :=
  let c0_i32_6879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6878 : BitVec 32 := 1#32
  let v6738 : BitVec 32 := Scalar.muli v14 c1_i32_6878
  let v6739 : BitVec 32 := Scalar.addi c0_i32_6879 v6738
  v6739.toNat
def k0_dev220 (d0 : Dev nD) : Nat :=
  let c0_i32_6902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6901 : BitVec 32 := 1#32
  let v6762 : BitVec 32 := Scalar.muli v25 c1_i32_6901
  let v6763 : BitVec 32 := Scalar.addi c0_i32_6902 v6762
  v6763.toNat
def k0_dev221 (d0 : Dev nD) : Nat :=
  let c0_i32_6925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6924 : BitVec 32 := 1#32
  let v6786 : BitVec 32 := Scalar.muli v14 c1_i32_6924
  let v6787 : BitVec 32 := Scalar.addi c0_i32_6925 v6786
  v6787.toNat
def k0_dev222 (d0 : Dev nD) : Nat :=
  let c0_i32_6948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6947 : BitVec 32 := 1#32
  let v6810 : BitVec 32 := Scalar.muli v25 c1_i32_6947
  let v6811 : BitVec 32 := Scalar.addi c0_i32_6948 v6810
  v6811.toNat
def k0_dev223 (d0 : Dev nD) : Nat :=
  let c0_i32_6971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_6970 : BitVec 32 := 1#32
  let v6834 : BitVec 32 := Scalar.muli v14 c1_i32_6970
  let v6835 : BitVec 32 := Scalar.addi c0_i32_6971 v6834
  v6835.toNat
def k0_dev224 (d0 : Dev nD) : Nat :=
  let c0_i32_6994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_6993 : BitVec 32 := 1#32
  let v6858 : BitVec 32 := Scalar.muli v25 c1_i32_6993
  let v6859 : BitVec 32 := Scalar.addi c0_i32_6994 v6858
  v6859.toNat
def k0_dev225 (d0 : Dev nD) : Nat :=
  let c0_i32_7017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7016 : BitVec 32 := 1#32
  let v6882 : BitVec 32 := Scalar.muli v14 c1_i32_7016
  let v6883 : BitVec 32 := Scalar.addi c0_i32_7017 v6882
  v6883.toNat
def k0_dev226 (d0 : Dev nD) : Nat :=
  let c0_i32_7040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7039 : BitVec 32 := 1#32
  let v6906 : BitVec 32 := Scalar.muli v25 c1_i32_7039
  let v6907 : BitVec 32 := Scalar.addi c0_i32_7040 v6906
  v6907.toNat
def k0_dev227 (d0 : Dev nD) : Nat :=
  let c0_i32_7063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7062 : BitVec 32 := 1#32
  let v6930 : BitVec 32 := Scalar.muli v14 c1_i32_7062
  let v6931 : BitVec 32 := Scalar.addi c0_i32_7063 v6930
  v6931.toNat
def k0_dev228 (d0 : Dev nD) : Nat :=
  let c0_i32_7086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7085 : BitVec 32 := 1#32
  let v6954 : BitVec 32 := Scalar.muli v25 c1_i32_7085
  let v6955 : BitVec 32 := Scalar.addi c0_i32_7086 v6954
  v6955.toNat
def k0_dev229 (d0 : Dev nD) : Nat :=
  let c0_i32_7109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7108 : BitVec 32 := 1#32
  let v6978 : BitVec 32 := Scalar.muli v14 c1_i32_7108
  let v6979 : BitVec 32 := Scalar.addi c0_i32_7109 v6978
  v6979.toNat
def k0_dev230 (d0 : Dev nD) : Nat :=
  let c0_i32_7132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7131 : BitVec 32 := 1#32
  let v7002 : BitVec 32 := Scalar.muli v25 c1_i32_7131
  let v7003 : BitVec 32 := Scalar.addi c0_i32_7132 v7002
  v7003.toNat
def k0_dev231 (d0 : Dev nD) : Nat :=
  let c0_i32_7155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7154 : BitVec 32 := 1#32
  let v7026 : BitVec 32 := Scalar.muli v14 c1_i32_7154
  let v7027 : BitVec 32 := Scalar.addi c0_i32_7155 v7026
  v7027.toNat
def k0_dev232 (d0 : Dev nD) : Nat :=
  let c0_i32_7178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7177 : BitVec 32 := 1#32
  let v7050 : BitVec 32 := Scalar.muli v25 c1_i32_7177
  let v7051 : BitVec 32 := Scalar.addi c0_i32_7178 v7050
  v7051.toNat
def k0_dev233 (d0 : Dev nD) : Nat :=
  let c0_i32_7201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7200 : BitVec 32 := 1#32
  let v7074 : BitVec 32 := Scalar.muli v14 c1_i32_7200
  let v7075 : BitVec 32 := Scalar.addi c0_i32_7201 v7074
  v7075.toNat
def k0_dev234 (d0 : Dev nD) : Nat :=
  let c0_i32_7224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_7223 : BitVec 32 := 1#32
  let v7098 : BitVec 32 := Scalar.muli v25 c1_i32_7223
  let v7099 : BitVec 32 := Scalar.addi c0_i32_7224 v7098
  v7099.toNat
def k0_dev235 (d0 : Dev nD) : Nat :=
  let c0_i32_7254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7253 : BitVec 32 := 1#32
  let v7133 : BitVec 32 := Scalar.muli v14 c1_i32_7253
  let v7134 : BitVec 32 := Scalar.addi c0_i32_7254 v7133
  v7134.toNat
def k0_dev236 (d0 : Dev nD) : Nat :=
  let c0_i32_7277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7276 : BitVec 32 := 1#32
  let v7157 : BitVec 32 := Scalar.muli v14 c1_i32_7276
  let v7158 : BitVec 32 := Scalar.addi c0_i32_7277 v7157
  v7158.toNat
def k0_dev237 (d0 : Dev nD) : Nat :=
  let c0_i32_7300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7299 : BitVec 32 := 1#32
  let v7181 : BitVec 32 := Scalar.muli v14 c1_i32_7299
  let v7182 : BitVec 32 := Scalar.addi c0_i32_7300 v7181
  v7182.toNat
def k0_dev238 (d0 : Dev nD) : Nat :=
  let c0_i32_7323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7322 : BitVec 32 := 1#32
  let v7205 : BitVec 32 := Scalar.muli v14 c1_i32_7322
  let v7206 : BitVec 32 := Scalar.addi c0_i32_7323 v7205
  v7206.toNat
def k0_dev239 (d0 : Dev nD) : Nat :=
  let c0_i32_7346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7345 : BitVec 32 := 1#32
  let v7229 : BitVec 32 := Scalar.muli v14 c1_i32_7345
  let v7230 : BitVec 32 := Scalar.addi c0_i32_7346 v7229
  v7230.toNat
def k0_dev240 (d0 : Dev nD) : Nat :=
  let c0_i32_7369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7368 : BitVec 32 := 1#32
  let v7253 : BitVec 32 := Scalar.muli v14 c1_i32_7368
  let v7254 : BitVec 32 := Scalar.addi c0_i32_7369 v7253
  v7254.toNat
def k0_dev241 (d0 : Dev nD) : Nat :=
  let c0_i32_7392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7391 : BitVec 32 := 1#32
  let v7277 : BitVec 32 := Scalar.muli v14 c1_i32_7391
  let v7278 : BitVec 32 := Scalar.addi c0_i32_7392 v7277
  v7278.toNat
def k0_dev242 (d0 : Dev nD) : Nat :=
  let c0_i32_7415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_7414 : BitVec 32 := 1#32
  let v7301 : BitVec 32 := Scalar.muli v14 c1_i32_7414
  let v7302 : BitVec 32 := Scalar.addi c0_i32_7415 v7301
  v7302.toNat
abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x2048x1024 : Shape := ⟨3, ![16, 2048, 1024]⟩
abbrev S_ : Shape := ⟨0, ![]⟩
abbrev S2048x1024 : Shape := ⟨2, ![2048, 1024]⟩
abbrev S16x128x1024 : Shape := ⟨3, ![16, 128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .f32⟩
  | .hbm, ⟨2, _⟩ => ⟨S_, .f32⟩
  | .hbm, ⟨3, _⟩ => ⟨S2048x1024, .f32⟩
  | .hbm, ⟨4, _⟩ => ⟨S2048x1024, .bf16⟩
  | .hbm, ⟨5, _⟩ => ⟨S16x128x1024, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Steps.lean ====
/-
# The kernel's body as a program over its steps

The printed body is unrolled: one statement per copy, wait, load and store of the 8 + 8 ring steps of 8 slices
each. This module writes the same program as blocks over a step and a slice (`enqL s j`, `waitLs s j`, …), each
stated once at a symbolic step and slice, and composes them into `body`. `Body.lean` proves the printed body
equal to it.

Naming: `L` is what travels to the left neighbour, `R` what travels to the right one. The reduce-scatter sends
from `sL`/`sR` into the neighbour's `rL`/`rR`; the all-gather sends from the result buffer into the neighbour's.
-/
module

public import proofs.«01_k».proof.Proof.Gen.KernelIdeal
public import proofs.«01_k».proof.Proof.Gen.KernelIdeal.Points

@[expose] public section

set_option maxRecDepth 16384

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-- The programs of a device's core. -/
abbrev Pr (F : FTy → Type) [FloatOps F] := Prog (TpuEff nD τ sig (Elt F) Λ₀ .tc) PUnit

/-! ## Buffers and their slices -/

/-- The device's block of the argument. -/
abbrev xM : Memref sig .tc .vmem S1x2048x1024 .bf16 := Memref.whole cc0_stg0_0
/-- The result. -/
abbrev oM : Memref sig .tc .vmem S16x128x1024 .bf16 := Memref.whole cc0_stg1_0
/-- What is sent to the left, a part per step. -/
abbrev sLM : Memref sig .tc .vmem S8x128x1024 .bf16 := Memref.whole cc0_scratch0
/-- What is sent to the right, a part per step. -/
abbrev sRM : Memref sig .tc .vmem S7x128x1024 .bf16 := Memref.whole cc0_scratch1
/-- What arrives from the right (sent to the left), a part per step. -/
abbrev rLM : Memref sig .tc .vmem S8x128x1024 .bf16 := Memref.whole cc0_scratch2
/-- What arrives from the left (sent to the right), a part per step. -/
abbrev rRM : Memref sig .tc .vmem S7x128x1024 .bf16 := Memref.whole cc0_scratch3

theorem inb8 (s j : ℕ) (hs : s < 8) (hj : j < 8) :
    ∀ a, (![s, 16 * j, 0] : Fin 3 → Nat) a + S1x16x1024.size a ≤ S8x128x1024.size a := by
  intro a
  fin_cases a
  · show s + 1 ≤ 8; omega
  · show 16 * j + 16 ≤ 128; omega
  · show 0 + 1024 ≤ 1024; omega

theorem inb7 (s j : ℕ) (hs : s < 7) (hj : j < 8) :
    ∀ a, (![s, 16 * j, 0] : Fin 3 → Nat) a + S1x16x1024.size a ≤ S7x128x1024.size a := by
  intro a
  fin_cases a
  · show s + 1 ≤ 7; omega
  · show 16 * j + 16 ≤ 128; omega
  · show 0 + 1024 ≤ 1024; omega

/-- Slice `j` of part `s` of an eight-part buffer. -/
abbrev rect8 (s j : ℕ) (hs : s < 8) (hj : j < 8) : Rect S8x128x1024 :=
  Rect.unit (s := S8x128x1024) ![s, 16 * j, 0] S1x16x1024.size (inb8 s j hs hj)
/-- Slice `j` of part `s` of a seven-part buffer. -/
abbrev rect7 (s j : ℕ) (hs : s < 7) (hj : j < 8) : Rect S7x128x1024 :=
  Rect.unit (s := S7x128x1024) ![s, 16 * j, 0] S1x16x1024.size (inb7 s j hs hj)

theorem words8' : ∀ s j : Fin 8, (rect8 s.1 j.1 s.2 j.2).WholeWords (EltTy.packing .bf16) := by decide +kernel
theorem packed8' : ∀ s j : Fin 8, (rect8 s.1 j.1 s.2 j.2).PackedRows (EltTy.packing .bf16) := by decide +kernel
theorem words7' : ∀ (s : Fin 7) (j : Fin 8), (rect7 s.1 j.1 s.2 j.2).WholeWords (EltTy.packing .bf16) := by
  decide +kernel
theorem packed7' : ∀ (s : Fin 7) (j : Fin 8), (rect7 s.1 j.1 s.2 j.2).PackedRows (EltTy.packing .bf16) := by
  decide +kernel

theorem words8 (s j : ℕ) (hs : s < 8) (hj : j < 8) : (rect8 s j hs hj).WholeWords (EltTy.packing .bf16) :=
  words8' ⟨s, hs⟩ ⟨j, hj⟩
theorem packed8 (s j : ℕ) (hs : s < 8) (hj : j < 8) : (rect8 s j hs hj).PackedRows (EltTy.packing .bf16) :=
  packed8' ⟨s, hs⟩ ⟨j, hj⟩
theorem words7 (s j : ℕ) (hs : s < 7) (hj : j < 8) : (rect7 s j hs hj).WholeWords (EltTy.packing .bf16) :=
  words7' ⟨s, hs⟩ ⟨j, hj⟩
theorem packed7 (s j : ℕ) (hs : s < 7) (hj : j < 8) : (rect7 s j hs hj).PackedRows (EltTy.packing .bf16) :=
  packed7' ⟨s, hs⟩ ⟨j, hj⟩

/-- Slice `j` of the chunk step `t` of the all-gather sends to the left, as an offset into the result. -/
def offL (d0 : Dev nD) (t j : ℕ) : Fin 3 → ℕ := ![k0_off5 d0 (BitVec.ofNat 32 t) 0, 16 * j, 0]
/-- Slice `j` of the chunk step `t` of the all-gather sends to the right, as an offset into the result. -/
def offR (d0 : Dev nD) (t j : ℕ) : Fin 3 → ℕ := ![k0_off6 d0 (BitVec.ofNat 32 t) 0, 16 * j, 0]
/-- Slice `j` of the device's own chunk, as an offset into the result. -/
def offO (d0 : Dev nD) (j : ℕ) : Fin 3 → ℕ := ![k0_off4 d0 0, 16 * j, 0]

theorem k0_off5_row : ∀ (d0 : Dev nD) (t : Fin 8), k0_off5 d0 (BitVec.ofNat 32 t.1) 0 = (d0.val + t.1) % 16 := by
  decide +kernel
theorem k0_off6_row : ∀ (d0 : Dev nD) (t : Fin 8), k0_off6 d0 (BitVec.ofNat 32 t.1) 0 = (d0.val + 16 - t.1) % 16 := by
  decide +kernel

theorem offL_eq (d0 : Dev nD) (t j : ℕ) (ht : t < 8) : offL d0 t j = ![(d0.val + t) % 16, 16 * j, 0] := by
  rw [offL, k0_off5_row d0 ⟨t, ht⟩]
theorem offR_eq (d0 : Dev nD) (t j : ℕ) (ht : t < 8) : offR d0 t j = ![(d0.val + 16 - t) % 16, 16 * j, 0] := by
  rw [offR, k0_off6_row d0 ⟨t, ht⟩]
theorem offO_eq (d0 : Dev nD) (j : ℕ) : offO d0 j = ![d0.val, 16 * j, 0] := by
  rw [offO, k0_off4_eq]; rfl

theorem inb16 (r j : ℕ) (hr : r < 16) (hj : j < 8) :
    ∀ a, (![r, 16 * j, 0] : Fin 3 → Nat) a + S1x16x1024.size a ≤ S16x128x1024.size a := by
  intro a
  fin_cases a
  · show r + 1 ≤ 16; omega
  · show 16 * j + 16 ≤ 128; omega
  · show 0 + 1024 ≤ 1024; omega

/-- Slice `j` of chunk `r` of the result. -/
abbrev rect16 (r j : ℕ) (hr : r < 16) (hj : j < 8) : Rect S16x128x1024 :=
  Rect.unit (s := S16x128x1024) ![r, 16 * j, 0] S1x16x1024.size (inb16 r j hr hj)

theorem words16' : ∀ (r : Fin 16) (j : Fin 8), (rect16 r.1 j.1 r.2 j.2).WholeWords (EltTy.packing .bf16) := by
  decide +kernel
theorem packed16' : ∀ (r : Fin 16) (j : Fin 8), (rect16 r.1 j.1 r.2 j.2).PackedRows (EltTy.packing .bf16) := by
  decide +kernel

theorem inbOf {o : Fin 3 → ℕ} {r j : ℕ} (ho : o = ![r, 16 * j, 0]) (hr : r < 16) (hj : j < 8) :
    ∀ a, o a + S1x16x1024.size a ≤ S16x128x1024.size a := by subst ho; exact inb16 r j hr hj
theorem wordsOf {o : Fin 3 → ℕ} {r j : ℕ} (ho : o = ![r, 16 * j, 0]) (hr : r < 16) (hj : j < 8) :
    (Rect.unit (s := S16x128x1024) o S1x16x1024.size (inbOf ho hr hj)).WholeWords (EltTy.packing .bf16) := by
  subst ho; exact words16' ⟨r, hr⟩ ⟨j, hj⟩
theorem packedOf {o : Fin 3 → ℕ} {r j : ℕ} (ho : o = ![r, 16 * j, 0]) (hr : r < 16) (hj : j < 8) :
    (Rect.unit (s := S16x128x1024) o S1x16x1024.size (inbOf ho hr hj)).PackedRows (EltTy.packing .bf16) := by
  subst ho; exact packed16' ⟨r, hr⟩ ⟨j, hj⟩

theorem m16 (n : ℕ) : n % 16 < 16 := Nat.mod_lt _ (by decide)

/-- The rectangle of `offL`. -/
abbrev rectL (d0 : Dev nD) (t j : ℕ) (ht : t < 8) (hj : j < 8) : Rect S16x128x1024 :=
  Rect.unit (s := S16x128x1024) (offL d0 t j) S1x16x1024.size (inbOf (offL_eq d0 t j ht) (m16 _) hj)
/-- The rectangle of `offR`. -/
abbrev rectR (d0 : Dev nD) (t j : ℕ) (ht : t < 8) (hj : j < 8) : Rect S16x128x1024 :=
  Rect.unit (s := S16x128x1024) (offR d0 t j) S1x16x1024.size (inbOf (offR_eq d0 t j ht) (m16 _) hj)
/-- The rectangle of `offO`. -/
abbrev rectO (d0 : Dev nD) (j : ℕ) (hj : j < 8) : Rect S16x128x1024 :=
  Rect.unit (s := S16x128x1024) (offO d0 j) S1x16x1024.size (inbOf (offO_eq d0 j) d0.isLt hj)

/-- A slice of an eight-part buffer as the copies see it. -/
abbrev sl8 (m : Memref sig .tc .vmem S8x128x1024 .bf16) (s j : ℕ) (hs : s < 8) (hj : j < 8) :
    Memref sig .tc .vmem S16x1024 .bf16 :=
  (m.slice (rect8 s j hs hj) (fun _ => rfl)).squeeze S16x1024 squeezes_S1x16x1024_S16x1024
/-- A slice of a seven-part buffer as the copies see it. -/
abbrev sl7 (m : Memref sig .tc .vmem S7x128x1024 .bf16) (s j : ℕ) (hs : s < 7) (hj : j < 8) :
    Memref sig .tc .vmem S16x1024 .bf16 :=
  (m.slice (rect7 s j hs hj) (fun _ => rfl)).squeeze S16x1024 squeezes_S1x16x1024_S16x1024
/-- The result's slice at `offL` as the copies see it. -/
abbrev oL (d0 : Dev nD) (t j : ℕ) (ht : t < 8) (hj : j < 8) : Memref sig .tc .vmem S16x1024 .bf16 :=
  (oM.slice (rectL d0 t j ht hj) (fun _ => rfl)).squeeze S16x1024 squeezes_S1x16x1024_S16x1024
/-- The result's slice at `offR` as the copies see it. -/
abbrev oR (d0 : Dev nD) (t j : ℕ) (ht : t < 8) (hj : j < 8) : Memref sig .tc .vmem S16x1024 .bf16 :=
  (oM.slice (rectR d0 t j ht hj) (fun _ => rfl)).squeeze S16x1024 squeezes_S1x16x1024_S16x1024

theorem word8 (m : Memref sig .tc .vmem S8x128x1024 .bf16) (hm : m.IsWhole) (s j : ℕ) (hs : s < 8) (hj : j < 8) :
    (sl8 m s j hs hj).view.WordExact := (hm.wordExact_slice rfl _ (words8 s j hs hj)).reshape _ _
theorem word7 (m : Memref sig .tc .vmem S7x128x1024 .bf16) (hm : m.IsWhole) (s j : ℕ) (hs : s < 7) (hj : j < 8) :
    (sl7 m s j hs hj).view.WordExact := (hm.wordExact_slice rfl _ (words7 s j hs hj)).reshape _ _
theorem wordL (d0 : Dev nD) (t j : ℕ) (ht : t < 8) (hj : j < 8) : (oL d0 t j ht hj).view.WordExact :=
  ((Memref.isWhole_whole cc0_stg1_0).wordExact_slice rfl _ (wordsOf (offL_eq d0 t j ht) (m16 _) hj)).reshape _ _
theorem wordR (d0 : Dev nD) (t j : ℕ) (ht : t < 8) (hj : j < 8) : (oR d0 t j ht hj).view.WordExact :=
  ((Memref.isWhole_whole cc0_stg1_0).wordExact_slice rfl _ (wordsOf (offR_eq d0 t j ht) (m16 _) hj)).reshape _ _

/-! ## Semaphores and neighbours -/

theorem inb64 (k : ℕ) (hk : k < 64) : ∀ a, (![k] : Fin 1 → Nat) a + S1.size a ≤ S64.size a := by
  intro a; fin_cases a; show k + 1 ≤ 64; omega
theorem inb56 (k : ℕ) (hk : k < 56) : ∀ a, (![k] : Fin 1 → Nat) a + S1.size a ≤ S56.size a := by
  intro a; fin_cases a; show k + 1 ≤ 56; omega

/-- The semaphore of step `s`, slice `j` in an array of 64. -/
abbrev sem64 (a : DmaSems sig S64) (s j : ℕ) (hs : s < 8) (hj : j < 8) : DmaSem sig :=
  ((a.slice (Rect.unit (s := S64) ![8 * s + j] S1.size (inb64 _ (by omega)))).squeeze S_ squeezes_S1_S_).sem
/-- The semaphore of step `s`, slice `j` in an array of 56. -/
abbrev sem56 (a : DmaSems sig S56) (s j : ℕ) (hs : s < 7) (hj : j < 8) : DmaSem sig :=
  ((a.slice (Rect.unit (s := S56) ![8 * s + j] S1.size (inb56 _ (by omega)))).squeeze S_ squeezes_S1_S_).sem

/-- The left neighbour, as the kernel computes it. -/
abbrev lftD (d0 : Dev nD) : Dev nD := ⟨k0_dev1 d0, k0_dev1_lt d0⟩
/-- The right neighbour, as the kernel computes it. -/
abbrev rgtD (d0 : Dev nD) : Dev nD := ⟨k0_dev2 d0, k0_dev2_lt d0⟩

/-- The runtime's barrier semaphore. -/
abbrev barSem : Sem sig := (SemArray.scalar (sig.barrier 0 rfl) : Sems sig S_).sem

/-! ## The operations, each followed by the rest of the program -/

/-- The copy of step `s`, slice `j` of the reduce-scatter to the left. -/
def enqL (d0 : Dev nD) (s j : ℕ) (hs : s < 8) (hj : j < 8) (rest : Pr F) : Pr F :=
  .op (.enqueueDma (sl8 sLM s j hs hj)
    (.remote (Dev.tc (lftD d0)) (sl8 rLM s j hs hj) (.dma (sem64 cc0_scratch4 s j hs hj)))
    (.dma (sem64 cc0_scratch5 s j hs hj))
    (word8 sLM (Memref.isWhole_whole _) s j hs hj) (word8 rLM (Memref.isWhole_whole _) s j hs hj)
    ⟨⟨rfl, Or.inl rfl⟩, trivial⟩) fun _ => rest
/-- The copy of step `s`, slice `j` of the reduce-scatter to the right. -/
def enqR (d0 : Dev nD) (s j : ℕ) (hs : s < 7) (hj : j < 8) (rest : Pr F) : Pr F :=
  .op (.enqueueDma (sl7 sRM s j hs hj)
    (.remote (Dev.tc (rgtD d0)) (sl7 rRM s j hs hj) (.dma (sem56 cc0_scratch6 s j hs hj)))
    (.dma (sem56 cc0_scratch7 s j hs hj))
    (word7 sRM (Memref.isWhole_whole _) s j hs hj) (word7 rRM (Memref.isWhole_whole _) s j hs hj)
    ⟨⟨rfl, Or.inl rfl⟩, trivial⟩) fun _ => rest
/-- The copy of step `t`, slice `j` of the all-gather to the left. -/
def enqGL (d0 : Dev nD) (t j : ℕ) (ht : t < 8) (hj : j < 8) (rest : Pr F) : Pr F :=
  .op (.enqueueDma (oL d0 t j ht hj)
    (.remote (Dev.tc (lftD d0)) (oL d0 t j ht hj) (.dma (sem64 cc0_scratch8 t j ht hj)))
    (.dma (sem64 cc0_scratch9 t j ht hj))
    (wordL d0 t j ht hj) (wordL d0 t j ht hj)
    ⟨⟨rfl, Or.inl rfl⟩, trivial⟩) fun _ => rest
/-- The copy of step `t`, slice `j` of the all-gather to the right. -/
def enqGR (d0 : Dev nD) (t j : ℕ) (ht : t < 7) (hj : j < 8) (rest : Pr F) : Pr F :=
  .op (.enqueueDma (oR d0 t j (by omega) hj)
    (.remote (Dev.tc (rgtD d0)) (oR d0 t j (by omega) hj) (.dma (sem56 cc0_scratch10 t j ht hj)))
    (.dma (sem56 cc0_scratch11 t j ht hj))
    (wordR d0 t j (by omega) hj) (wordR d0 t j (by omega) hj)
    ⟨⟨rfl, Or.inl rfl⟩, trivial⟩) fun _ => rest

/-- The two waits for a reduce-scatter copy of step `s` to the left: sent, then received. -/
def waitL (s j : ℕ) (hs : s < 8) (hj : j < 8) (rest : Pr F) : Pr F :=
  .op (.waitDma2 (sem64 cc0_scratch4 s j hs hj) (sl8 rLM s j hs hj) (sl8 sLM s j hs hj)
    (word8 rLM (Memref.isWhole_whole _) s j hs hj) (word8 sLM (Memref.isWhole_whole _) s j hs hj)) fun _ =>
  .op (.waitDma2 (sem64 cc0_scratch5 s j hs hj) (sl8 sLM s j hs hj) (sl8 rLM s j hs hj)
    (word8 sLM (Memref.isWhole_whole _) s j hs hj) (word8 rLM (Memref.isWhole_whole _) s j hs hj)) fun _ => rest
/-- The two waits for a reduce-scatter copy of step `s` to the right. -/
def waitR (s j : ℕ) (hs : s < 7) (hj : j < 8) (rest : Pr F) : Pr F :=
  .op (.waitDma2 (sem56 cc0_scratch6 s j hs hj) (sl7 rRM s j hs hj) (sl7 sRM s j hs hj)
    (word7 rRM (Memref.isWhole_whole _) s j hs hj) (word7 sRM (Memref.isWhole_whole _) s j hs hj)) fun _ =>
  .op (.waitDma2 (sem56 cc0_scratch7 s j hs hj) (sl7 sRM s j hs hj) (sl7 rRM s j hs hj)
    (word7 sRM (Memref.isWhole_whole _) s j hs hj) (word7 rRM (Memref.isWhole_whole _) s j hs hj)) fun _ => rest
/-- The two waits for an all-gather copy of step `t` to the left. -/
def waitGL (d0 : Dev nD) (t j : ℕ) (ht : t < 8) (hj : j < 8) (rest : Pr F) : Pr F :=
  .op (.waitDma2 (sem64 cc0_scratch8 t j ht hj) (oL d0 t j ht hj) (oL d0 t j ht hj)
    (wordL d0 t j ht hj) (wordL d0 t j ht hj)) fun _ =>
  .op (.waitDma2 (sem64 cc0_scratch9 t j ht hj) (oL d0 t j ht hj) (oL d0 t j ht hj)
    (wordL d0 t j ht hj) (wordL d0 t j ht hj)) fun _ => rest
/-- The two waits for an all-gather copy of step `t` to the right. -/
def waitGR (d0 : Dev nD) (t j : ℕ) (ht : t < 7) (hj : j < 8) (rest : Pr F) : Pr F :=
  .op (.waitDma2 (sem56 cc0_scratch10 t j ht hj) (oR d0 t j (by omega) hj) (oR d0 t j (by omega) hj)
    (wordR d0 t j (by omega) hj) (wordR d0 t j (by omega) hj)) fun _ =>
  .op (.waitDma2 (sem56 cc0_scratch11 t j ht hj) (oR d0 t j (by omega) hj) (oR d0 t j (by omega) hj)
    (wordR d0 t j (by omega) hj) (wordR d0 t j (by omega) hj)) fun _ => rest

/-- The load of slice `j` of the argument's chunk of step `s` on the way to the left. -/
def loadX1 (d0 : Dev nD) (s j : ℕ) (hs : s < 8) (hj : j < 8) (k : Vec F S1x16x1024 .bf16 → Pr F) : Pr F :=
  .op (.load xM (Rect.unit (s := S1x2048x1024) (k0_off1 d0 (BitVec.ofNat 32 s) (BitVec.ofNat 32 (16 * j)))
    S1x16x1024.size (k0_off1_inb d0 ⟨s, hs⟩ ⟨j, hj⟩)).toLoadRect (View.loadsAt_vmem h_S1x16x1024)) k
/-- The load of slice `j` of the argument's chunk of step `s` on the way to the right. -/
def loadX2 (d0 : Dev nD) (s j : ℕ) (hs : s < 7) (hj : j < 8) (k : Vec F S1x16x1024 .bf16 → Pr F) : Pr F :=
  .op (.load xM (Rect.unit (s := S1x2048x1024) (k0_off2 d0 (BitVec.ofNat 32 s) (BitVec.ofNat 32 (16 * j)))
    S1x16x1024.size (k0_off2_inb d0 ⟨s, hs⟩ ⟨j, hj⟩)).toLoadRect (View.loadsAt_vmem h_S1x16x1024)) k
/-- The load of slice `j` of the argument's own chunk. -/
def loadX3 (d0 : Dev nD) (j : ℕ) (hj : j < 8) (k : Vec F S1x16x1024 .bf16 → Pr F) : Pr F :=
  .op (.load xM (Rect.unit (s := S1x2048x1024) (k0_off3 d0 (BitVec.ofNat 32 (16 * j)))
    S1x16x1024.size (k0_off3_inb d0 ⟨j, hj⟩)).toLoadRect (View.loadsAt_vmem h_S1x16x1024)) k
/-- A load of a slice of an eight-part buffer. -/
def load8 (m : Memref sig .tc .vmem S8x128x1024 .bf16) (s j : ℕ) (hs : s < 8) (hj : j < 8)
    (k : Vec F S1x16x1024 .bf16 → Pr F) : Pr F :=
  .op (.load m (rect8 s j hs hj).toLoadRect (View.loadsAt_vmem h_S1x16x1024)) k
/-- A load of a slice of a seven-part buffer. -/
def load7 (m : Memref sig .tc .vmem S7x128x1024 .bf16) (s j : ℕ) (hs : s < 7) (hj : j < 8)
    (k : Vec F S1x16x1024 .bf16 → Pr F) : Pr F :=
  .op (.load m (rect7 s j hs hj).toLoadRect (View.loadsAt_vmem h_S1x16x1024)) k
/-- The load of a slice of the result's own chunk. -/
def loadO (d0 : Dev nD) (j : ℕ) (hj : j < 8) (k : Vec F S1x16x1024 .bf16 → Pr F) : Pr F :=
  .op (.load oM (rectO d0 j hj).toLoadRect (View.loadsAt_vmem h_S1x16x1024)) k
/-- A store into a slice of `sL`. -/
def store8 (s j : ℕ) (hs : s < 8) (hj : j < 8) (v : FVec F S1x16x1024 .bf16) (rest : Pr F) : Pr F :=
  .op (.store sLM (rect8 s j hs hj) v Finset.univ
    (View.stores_vmem h_S1x16x1024 ((Memref.isWhole_whole cc0_scratch0).storeExact_slice rfl _ (packed8 s j hs hj))
      (fun _ => rfl)) (.inl rfl)) fun _ => rest
/-- A store into a slice of `sR`. -/
def store7 (s j : ℕ) (hs : s < 7) (hj : j < 8) (v : FVec F S1x16x1024 .bf16) (rest : Pr F) : Pr F :=
  .op (.store sRM (rect7 s j hs hj) v Finset.univ
    (View.stores_vmem h_S1x16x1024 ((Memref.isWhole_whole cc0_scratch1).storeExact_slice rfl _ (packed7 s j hs hj))
      (fun _ => rfl)) (.inl rfl)) fun _ => rest
/-- The store into a slice of the result's own chunk. -/
def storeO (d0 : Dev nD) (j : ℕ) (hj : j < 8) (v : FVec F S1x16x1024 .bf16) (rest : Pr F) : Pr F :=
  .op (.store oM (rectO d0 j hj) v Finset.univ
    (View.stores_vmem h_S1x16x1024
      ((Memref.isWhole_whole cc0_stg1_0).storeExact_slice rfl _ (packedOf (offO_eq d0 j) d0.isLt hj))
      (fun _ => rfl)) (.inl rfl)) fun _ => rest

/-! ## What is stored -/

/-- A loaded slice as a matrix. -/
abbrev mat (v : Vec F S1x16x1024 .bf16) : FVec F S16x1024 .bf16 := shapeCast S16x1024 v shapeCasts_S1x16x1024_S16x1024
/-- A matrix as a slice to store. -/
abbrev row (v : FVec F S16x1024 .bf16) : FVec F S1x16x1024 .bf16 := shapeCast S1x16x1024 v shapeCasts_S16x1024_S1x16x1024

/-! ## The blocks -/

/-- Step 0, slice `j` of the reduce-scatter: store the argument's slice and send it, both ways. -/
def blkA (d0 : Dev nD) (j : ℕ) (hj : j < 8) (rest : Pr F) : Pr F :=
  loadX1 d0 0 j (by omega) hj fun v => load8 sLM 0 j (by omega) hj fun _ =>
  store8 0 j (by omega) hj (row (mat v)) <| enqL d0 0 j (by omega) hj <|
  loadX2 d0 0 j (by omega) hj fun v => load7 sRM 0 j (by omega) hj fun _ =>
  store7 0 j (by omega) hj (row (mat v)) <| enqR d0 0 j (by omega) hj rest

/-- The half of step `s + 1`, slice `j` of the reduce-scatter to the left: wait for step `s`, add the argument's
    slice to what arrived, store and send the sum. -/
def blkBL (d0 : Dev nD) (s j : ℕ) (hs : s < 7) (hj : j < 8) (rest : Pr F) : Pr F :=
  waitL s j (by omega) hj <|
  loadX1 d0 (s + 1) j (by omega) hj fun v => load8 rLM s j (by omega) hj fun w =>
  load8 sLM (s + 1) j (by omega) hj fun _ =>
  store8 (s + 1) j (by omega) hj (row (addf (mat v) (mat w))) <| enqL d0 (s + 1) j (by omega) hj rest

/-- The half of step `s + 1`, slice `j` of the reduce-scatter to the right. -/
def blkBR (d0 : Dev nD) (s j : ℕ) (hs : s < 6) (hj : j < 8) (rest : Pr F) : Pr F :=
  waitR s j (by omega) hj <|
  loadX2 d0 (s + 1) j (by omega) hj fun v => load7 rRM s j (by omega) hj fun w =>
  load7 sRM (s + 1) j (by omega) hj fun _ =>
  store7 (s + 1) j (by omega) hj (row (addf (mat v) (mat w))) <| enqR d0 (s + 1) j (by omega) hj rest

/-- Step `s + 1`, slice `j` of the reduce-scatter, both ways. -/
def blkB (d0 : Dev nD) (s j : ℕ) (hs : s < 6) (hj : j < 8) (rest : Pr F) : Pr F :=
  blkBL d0 s j (by omega) hj <| blkBR d0 s j hs hj rest

/-- Step 0, slice `j` of the all-gather: wait for the last parts, store the whole sum of the own chunk, send it
    both ways. -/
def blkC (d0 : Dev nD) (j : ℕ) (hj : j < 8) (rest : Pr F) : Pr F :=
  waitL 7 j (by omega) hj <| waitR 6 j (by omega) hj <|
  loadX3 d0 j hj fun v => load8 rLM 7 j (by omega) hj fun w => load7 rRM 6 j (by omega) hj fun u =>
  loadO d0 j hj fun _ => storeO d0 j hj (row (addf (addf (mat v) (mat w)) (mat u))) <|
  enqGL d0 0 j (by omega) hj <| enqGR d0 0 j (by omega) hj rest

/-- The half of step `t + 1`, slice `j` of the all-gather to the left: wait for step `t`, send on what arrived. -/
def blkDL (d0 : Dev nD) (t j : ℕ) (ht : t < 7) (hj : j < 8) (rest : Pr F) : Pr F :=
  waitGL d0 t j (by omega) hj <| enqGL d0 (t + 1) j (by omega) hj rest
/-- The half of step `t + 1`, slice `j` of the all-gather to the right. -/
def blkDR (d0 : Dev nD) (t j : ℕ) (ht : t < 6) (hj : j < 8) (rest : Pr F) : Pr F :=
  waitGR d0 t j (by omega) hj <| enqGR d0 (t + 1) j (by omega) hj rest
/-- Step `t + 1`, slice `j` of the all-gather, both ways. -/
def blkD (d0 : Dev nD) (t j : ℕ) (ht : t < 6) (hj : j < 8) (rest : Pr F) : Pr F :=
  blkDL d0 t j (by omega) hj <| blkDR d0 t j ht hj rest
/-- The last waits of the all-gather, slice `j`. -/
def blkE (d0 : Dev nD) (j : ℕ) (hj : j < 8) (rest : Pr F) : Pr F :=
  waitGL d0 7 j (by omega) hj <| waitGR d0 6 j (by omega) hj rest

/-- A block for each of the eight slices in turn. -/
def rows (b : (j : ℕ) → j < 8 → Pr F → Pr F) (rest : Pr F) : Pr F :=
  b 0 (by omega) <| b 1 (by omega) <| b 2 (by omega) <| b 3 (by omega) <|
  b 4 (by omega) <| b 5 (by omega) <| b 6 (by omega) <| b 7 (by omega) rest

/-- Six rows of blocks in turn, one per step. -/
def steps (b : (s : ℕ) → s < 6 → (j : ℕ) → j < 8 → Pr F → Pr F) (rest : Pr F) : Pr F :=
  rows (b 0 (by omega)) <| rows (b 1 (by omega)) <| rows (b 2 (by omega)) <|
  rows (b 3 (by omega)) <| rows (b 4 (by omega)) <| rows (b 5 (by omega)) rest

/-- The reduce-scatter. -/
def scatter (d0 : Dev nD) (rest : Pr F) : Pr F :=
  rows (blkA d0) <| steps (fun s hs j hj => blkB d0 s j hs hj) <| rows (fun j hj => blkBL d0 6 j (by omega) hj) rest

/-- The all-gather. -/
def gather (d0 : Dev nD) (rest : Pr F) : Pr F :=
  rows (blkC d0) <| steps (fun t ht j hj => blkD d0 t j ht hj) <|
  rows (fun j hj => blkDL d0 6 j (by omega) hj) <| rows (blkE d0) rest

/-- The body: the handshake with both neighbours, the reduce-scatter, the all-gather. -/
def body : Pr F :=
  .op .deviceId fun d0 : Dev nD =>
  semSignalWord (lftD d0) barSem 1#32 >>= fun _ => semSignalWord (rgtD d0) barSem 1#32 >>= fun _ =>
  semWaitWord barSem 2#32 >>= fun _ => scatter d0 <| gather d0 (.ret ⟨⟩)

end Cert.KernelIdeal.Ring

end
-- ==== Proof.Values.lean ====
/-
# The ring, what each buffer comes to hold, and what the accesses read and write

The devices stand in a ring; `lft` and `rgt` are the neighbours. `WL c s` is the part sum device `c` sends to the
left at step `s` of the reduce-scatter, `WR c s` the one it sends to the right, `own r` the whole sum of chunk `r`.
The contents of every buffer are functions of the arguments `X` (a block per device): a buffer is held slice by
slice, each slice at these contents once it has been written.
-/
module

public import proofs.«01_k».proof.Proof.Steps
public import Idealize.ShloMosaic.Lib.ValueIdxCore
public import Idealize.ShloMosaic.Lib.Pipeline.Value

@[expose] public section

set_option maxRecDepth 16384

noncomputable section

namespace Cert.KernelIdeal.Ring

open Idealize.ShloMosaic Idealize.ShloMosaic.TcCoe Idealize.ShloMosaic.ValueIdx
open Idealize.SL Idealize.SL.Sem
open Cert.KernelIdeal Cert.KernelIdeal.Gen

variable {F : FTy → Type} [FloatOps F]

/-! ## The ring -/

/-- The left neighbour. -/
def lft (c : Dev nD) : Dev nD := ⟨(c.val + 15) % 16, Nat.mod_lt _ (by decide)⟩
/-- The right neighbour. -/
def rgt (c : Dev nD) : Dev nD := ⟨(c.val + 1) % 16, Nat.mod_lt _ (by decide)⟩

theorem dev_lt (c : Dev nD) : c.val < 16 := c.isLt
theorem lft_rgt (c : Dev nD) : lft (rgt c) = c := by
  have := dev_lt c; apply Fin.ext; show ((c.val + 1) % 16 + 15) % 16 = c.val; omega
theorem rgt_lft (c : Dev nD) : rgt (lft c) = c := by
  have := dev_lt c; apply Fin.ext; show ((c.val + 15) % 16 + 1) % 16 = c.val; omega
theorem lftD_eq (c : Dev nD) : lftD c = lft c := by
  have h : ∀ d : Dev nD, k0_dev1 d = (d.val + 15) % 16 := by decide +kernel
  exact Fin.ext (h c)
theorem rgtD_eq (c : Dev nD) : rgtD c = rgt c := by
  have h : ∀ d : Dev nD, k0_dev2 d = (d.val + 1) % 16 := by decide +kernel
  exact Fin.ext (h c)

/-- A step to the right and back, as a permutation of the devices. -/
def ring : Dev nD ≃ Dev nD := ⟨rgt, lft, lft_rgt, rgt_lft⟩

/-! ## The contents -/

/-- What a buffer of the kernel holds. -/
abbrev V (F : FTy → Type) [FloatOps F] : Type := Elt F .bf16

/-- A chunk number. -/
def ch (n : ℕ) : Fin 16 := ⟨n % 16, Nat.mod_lt _ (by decide)⟩

variable (X : Dev nD → S1x2048x1024.Idx → V F)

/-- Element `(i, n)` of chunk `r` of device `c`'s block. -/
def xat (c : Dev nD) (r : Fin 16) (i : Fin 128) (n : Fin 1024) : V F :=
  X c (ix3 (0 : Fin 1) (⟨128 * r.val + i.val, by omega⟩ : Fin 2048) n)

/-- The part sum device `c` sends to the left at a step of the reduce-scatter. -/
def WL : ℕ → Dev nD → Fin 128 → Fin 1024 → V F
  | 0, c, i, n => xat X c (ch (c.val + 8)) i n
  | s + 1, c, i, n => FloatOps.addf (F := F) (φ := .bf16) (xat X c (ch (c.val + 8 + (s + 1))) i n) (WL s (rgt c) i n)

/-- The part sum device `c` sends to the right at a step of the reduce-scatter. -/
def WR : ℕ → Dev nD → Fin 128 → Fin 1024 → V F
  | 0, c, i, n => xat X c (ch (c.val + 7)) i n
  | s + 1, c, i, n => FloatOps.addf (F := F) (φ := .bf16) (xat X c (ch (c.val + 7 - (s + 1))) i n) (WR s (lft c) i n)

/-- The device whose number is a chunk's. -/
def devOf (r : Fin 16) : Dev nD := ⟨r.val, r.isLt⟩

/-- The whole sum of chunk `r`, as its device computes it. -/
def own (r : Fin 16) (i : Fin 128) (n : Fin 1024) : V F :=
  FloatOps.addf (F := F) (φ := .bf16) (FloatOps.addf (F := F) (φ := .bf16) (xat X (devOf r) r i n) (WL X 7 (rgt (devOf r)) i n))
    (WR X 6 (lft (devOf r)) i n)

/-- An eight-part buffer from its parts. -/
def full8 (G : ℕ → Fin 128 → Fin 1024 → V F) : S8x128x1024.Idx → V F := fun x => G (x 0).val (x 1) (x 2)
/-- A seven-part buffer from its parts. -/
def full7 (G : ℕ → Fin 128 → Fin 1024 → V F) : S7x128x1024.Idx → V F := fun x => G (x 0).val (x 1) (x 2)
/-- The result. -/
def outF : S16x128x1024.Idx → V F := fun x => own X (x 0) (x 1) (x 2)
/-- Slice `j` of a part. -/
def slab (g : Fin 128 → Fin 1024 → V F) (j : ℕ) (hj : j < 8) : S1x16x1024.Idx → V F :=
  fun y => g ⟨16 * j + (y 1).val, by have : (y 1).val < 16 := (y 1).isLt; omega⟩ (y 2)

/-! ## The slices as sets of elements -/

/-- Slice `j` of part `s` of a buffer of parts. -/
def cut {k : ℕ} (s j : ℕ) : Finset (⟨3, ![k, 128, 1024]⟩ : Shape).Idx :=
  Finset.univ.filter fun x => (x 0).val = s ∧ (x 1).val / 16 = j

theorem mem_cut {k : ℕ} {s j : ℕ} {x : (⟨3, ![k, 128, 1024]⟩ : Shape).Idx} :
    x ∈ cut s j ↔ (x 0).val = s ∧ (x 1).val / 16 = j := by simp [cut]

theorem unit_set {k : ℕ} {o : Fin 3 → ℕ} {s j : ℕ} (ho : o = ![s, 16 * j, 0])
    (inb : ∀ a, o a + S1x16x1024.size a ≤ (⟨3, ![k, 128, 1024]⟩ : Shape).size a) :
    (Rect.unit (s := ⟨3, ![k, 128, 1024]⟩) o S1x16x1024.size inb).set = cut s j := by
  subst ho
  ext x
  rw [Rect.mem_set_unit, mem_cut]
  constructor
  · intro h
    have h0 : s ≤ (x 0).val ∧ (x 0).val < s + 1 := h 0
    have h1 : 16 * j ≤ (x 1).val ∧ (x 1).val < 16 * j + 16 := h 1
    omega
  · rintro ⟨h0, h1⟩ a
    match a with
    | ⟨0, _⟩ => show s ≤ (x 0).val ∧ (x 0).val < s + 1; omega
    | ⟨1, _⟩ => show 16 * j ≤ (x 1).val ∧ (x 1).val < 16 * j + 16; omega
    | ⟨2, _⟩ =>
      have : (x 2).val < 1024 := (x 2).isLt
      show 0 ≤ (x 2).val ∧ (x 2).val < 0 + 1024; omega

theorem set8 (s j : ℕ) (hs : s < 8) (hj : j < 8) :
    (rect8 s j hs hj).set = cut s j := unit_set rfl _
theorem set7 (s j : ℕ) (hs : s < 7) (hj : j < 8) : (rect7 s j hs hj).set = cut s j := unit_set rfl _

/-! ## Elementwise arithmetic -/

theorem row_mat (v : Vec F S1x16x1024 .bf16) : row (mat v) = v :=
  shapeCast_shapeCast v _ _

theorem row_add (v w : Vec F S1x16x1024 .bf16) :
    row (addf (mat v) (mat w)) = fun y => FloatOps.addf (F := F) (φ := .bf16) (v y) (w y) := by
  funext y
  have hv := congrFun (row_mat v) y
  have hw := congrFun (row_mat w) y
  show FloatOps.addf (F := F) (φ := .bf16) (row (mat v) y) (row (mat w) y) = _
  rw [hv, hw]

theorem row_add3 (v w u : Vec F S1x16x1024 .bf16) :
    row (addf (addf (mat v) (mat w)) (mat u))
      = fun y => FloatOps.addf (F := F) (φ := .bf16) (FloatOps.addf (F := F) (φ := .bf16) (v y) (w y)) (u y) := by
  funext y
  have hv := congrFun (row_mat v) y
  have hw := congrFun (row_mat w) y
  have hu := congrFun (row_mat u) y
  show FloatOps.addf (F := F) (φ := .bf16) (FloatOps.addf (F := F) (φ := .bf16) (row (mat v) y) (row (mat w) y)) (row (mat u) y) = _
  rw [hv, hw, hu]

/-! ## What the loads read -/

theorem off1_eq (c : Dev nD) (s j : ℕ) (hs : s < 8) (hj : j < 8) :
    k0_off1 c (BitVec.ofNat 32 s) (BitVec.ofNat 32 (16 * j)) = ![0, 128 * (ch (c.val + 8 + s)).val + 16 * j, 0] := by
  have h : ∀ (d : Dev nD) (s j : Fin 8), k0_off1 d (BitVec.ofNat 32 s.1) (BitVec.ofNat 32 (16 * j.1))
      = ![0, 128 * ((d.val + 8 + s.1) % 16) + 16 * j.1, 0] := by decide +kernel
  exact h c ⟨s, hs⟩ ⟨j, hj⟩
theorem off2_eq (c : Dev nD) (s j : ℕ) (hs : s < 7) (hj : j < 8) :
    k0_off2 c (BitVec.ofNat 32 s) (BitVec.ofNat 32 (16 * j)) = ![0, 128 * (ch (c.val + 7 - s)).val + 16 * j, 0] := by
  have h : ∀ (d : Dev nD) (s : Fin 7) (j : Fin 8), k0_off2 d (BitVec.ofNat 32 s.1) (BitVec.ofNat 32 (16 * j.1))
      = ![0, 128 * ((d.val + 7 - s.1) % 16) + 16 * j.1, 0] := by decide +kernel
  exact h c ⟨s, hs⟩ ⟨j, hj⟩
theorem off3_eq (c : Dev nD) (j : ℕ) (hj : j < 8) :
    k0_off3 c (BitVec.ofNat 32 (16 * j)) = ![0, 128 * (ch c.val).val + 16 * j, 0] := by
  have h := k0_off3_eq c ⟨j, hj⟩
  have hc : (ch c.val).val = c.val := Nat.mod_eq_of_lt (dev_lt c)
  rw [hc]; exact h

/-- A load from the argument reads a slice of a chunk. -/
theorem read_x (c : Dev nD) {o : Fin 3 → ℕ} (r : Fin 16) (j : ℕ) (hj : j < 8) (ho : o = ![0, 128 * r.val + 16 * j, 0])
    (inb : ∀ a, o a + S1x16x1024.size a ≤ S1x2048x1024.size a) :
    (xM : Memref sig .tc .vmem S1x2048x1024 .bf16).view.readAt (Elt F)
      (Rect.unit (s := S1x2048x1024) o S1x16x1024.size inb).toLoadRect (X c) = slab (xat X c r) j hj := by
  subst ho
  funext y
  show X c _ = X c _
  congr 1
  funext a
  match a with
  | ⟨0, _⟩ =>
    have : (y 0).val < 1 := (y 0).isLt
    apply Fin.ext; show 0 + 1 * (y 0).val = 0; omega
  | ⟨1, _⟩ => apply Fin.ext; show 128 * r.val + 16 * j + 1 * (y 1).val = 128 * r.val + (16 * j + (y 1).val); omega
  | ⟨2, _⟩ => apply Fin.ext; show 0 + 1 * (y 2).val = (y 2).val; omega

/-- A load from what arrived from the right. -/
theorem read_rL (G : ℕ → Fin 128 → Fin 1024 → V F) (s j : ℕ) (hs : s < 8) (hj : j < 8) :
    (rLM : Memref sig .tc .vmem S8x128x1024 .bf16).view.readAt (Elt F) (rect8 s j hs hj).toLoadRect (full8 G)
      = slab (G s) j hj := by
  funext y
  have h0 : (y 0).val < 1 := (y 0).isLt
  show G (s + 1 * (y 0).val) _ _ = G s _ _
  have e0 : s + 1 * (y 0).val = s := by omega
  rw [e0]
  congr 1
  · apply Fin.ext; show 16 * j + 1 * (y 1).val = 16 * j + (y 1).val; omega
  · apply Fin.ext; show 0 + 1 * (y 2).val = (y 2).val; omega

/-- A load from what arrived from the left. -/
theorem read_rR (G : ℕ → Fin 128 → Fin 1024 → V F) (s j : ℕ) (hs : s < 7) (hj : j < 8) :
    (rRM : Memref sig .tc .vmem S7x128x1024 .bf16).view.readAt (Elt F) (rect7 s j hs hj).toLoadRect (full7 G)
      = slab (G s) j hj := by
  funext y
  have h0 : (y 0).val < 1 := (y 0).isLt
  show G (s + 1 * (y 0).val) _ _ = G s _ _
  have e0 : s + 1 * (y 0).val = s := by omega
  rw [e0]
  congr 1
  · apply Fin.ext; show 16 * j + 1 * (y 1).val = 16 * j + (y 1).val; omega
  · apply Fin.ext; show 0 + 1 * (y 2).val = (y 2).val; omega

/-! ## What the stores write -/

/-- A view of a whole buffer's slice, written with `w`, holds `f` on the slice's elements when `w` is what `f` holds there. -/
theorem write_on {b : Ref sig .tc} (r : Rect b.ty.shape) (g f : b.ty.Contents (Elt F)) (w : r.shape.Idx → Elt F b.ty.elt)
    (h : ∀ y, w y = f (r.emb y)) :
    ∀ x ∈ r.set, ((View.whole b).slice r).write (Elt F) g w Finset.univ x = f x := by
  intro x hx
  rw [← Rect.map_emb_univ, Finset.mem_map] at hx
  obtain ⟨y, -, rfl⟩ := hx
  have := View.write_emb_of_mem (v := (View.whole b).slice r) (Val := Elt F) g w (Finset.mem_univ y)
  exact this.trans (h y)

theorem slab8 (G : ℕ → Fin 128 → Fin 1024 → V F) (s j : ℕ) (hs : s < 8) (hj : j < 8) (y : S1x16x1024.Idx) :
    slab (G s) j hj y = full8 G ((rect8 s j hs hj).emb y) := by
  have h0 : (y 0).val < 1 := (y 0).isLt
  show G s _ _ = G (s + 1 * (y 0).val) _ _
  have e0 : s + 1 * (y 0).val = s := by omega
  rw [e0]
  congr 1
  · apply Fin.ext; show 16 * j + (y 1).val = 16 * j + 1 * (y 1).val; omega
  · apply Fin.ext; show (y 2).val = 0 + 1 * (y 2).val; omega
theorem slab7 (G : ℕ → Fin 128 → Fin 1024 → V F) (s j : ℕ) (hs : s < 7) (hj : j < 8) (y : S1x16x1024.Idx) :
    slab (G s) j hj y = full7 G ((rect7 s j hs hj).emb y) := by
  have h0 : (y 0).val < 1 := (y 0).isLt
  show G s _ _ = G (s + 1 * (y 0).val) _ _
  have e0 : s + 1 * (y 0).val = s := by omega
  rw [e0]
  congr 1
  · apply Fin.ext; show 16 * j + (y 1).val = 16 * j + 1 * (y 1).val; omega
  · apply Fin.ext; show (y 2).val = 0 + 1 * (y 2).val; omega
theorem slabO (c : Dev nD) (j : ℕ) (hj : j < 8) (y : S1x16x1024.Idx) :
    slab (own X (ch c.val)) j hj y = outF X ((rectO c j hj).emb y) := by
  have h0 : (y 0).val < 1 := (y 0).isLt
  show own X _ _ _ = own X _ _ _
  congr 1
  · apply Fin.ext
    show c.val % 16 = offO c j 0 + 1 * (y 0).val
    rw [offO_eq, Nat.mod_eq_of_lt (dev_lt c)]
    show c.val = c.val + 1 * (y 0).val; omega
  · apply Fin.ext
    show 16 * j + (y 1).val = offO c j 1 + 1 * (y 1).val
    rw [offO_eq]
    show 16 * j + (y 1).val = 16 * j + 1 * (y 1).val; omega
  · apply Fin.ext
    show (y 2).val = offO c j 2 + 1 * (y 2).val
    rw [offO_eq]
    show (y 2).val = 0 + 1 * (y 2).val; omega

/-! ## What the copies land -/

/-- A copy lands, on its destination's elements, the contents that read there as the source reads. -/
theorem land_on {sp sp' : Space} {s : Shape} {e : EltTy} (vd : View sig .tc sp s e) (vs : View sig .tc sp' s e)
    (fd f : vd.ty.Contents (Elt F)) (fs : vs.ty.Contents (Elt F)) (h : vs.read (Elt F) fs = vd.read (Elt F) f) :
    ∀ y ∈ vd.set, vd.write (Elt F) fd (vs.read (Elt F) fs) Finset.univ y = f y := by
  intro y hy
  obtain ⟨x, -, rfl⟩ := Finset.mem_map.mp hy
  rw [View.write_emb_of_mem fd _ (Finset.mem_univ x), h, View.read_apply, cast_cast, cast_eq]

theorem land8 (G : ℕ → Fin 128 → Fin 1024 → V F) (s j : ℕ) (hs : s < 8) (hj : j < 8) :
    (sl8 sLM s j hs hj).view.read (Elt F) (full8 G) = (sl8 rLM s j hs hj).view.read (Elt F) (full8 G) := rfl
theorem land7 (G : ℕ → Fin 128 → Fin 1024 → V F) (s j : ℕ) (hs : s < 7) (hj : j < 8) :
    (sl7 sRM s j hs hj).view.read (Elt F) (full7 G) = (sl7 rRM s j hs hj).view.read (Elt F) (full7 G) := rfl

/-! ## The elements of the slices the copies see -/

theorem sLM_set (s j : ℕ) (hs : s < 8) (hj : j < 8) : (sl8 sLM s j hs hj).view.set = (cut s j : Finset S8x128x1024.Idx) :=
  (View.set_reshape _ _).trans ((View.set_slice_whole _ _).trans (unit_set rfl _))
theorem rLM_set (s j : ℕ) (hs : s < 8) (hj : j < 8) : (sl8 rLM s j hs hj).view.set = (cut s j : Finset S8x128x1024.Idx) :=
  (View.set_reshape _ _).trans ((View.set_slice_whole _ _).trans (unit_set rfl _))
theorem sRM_set (s j : ℕ) (hs : s < 7) (hj : j < 8) : (sl7 sRM s j hs hj).view.set = (cut s j : Finset S7x128x1024.Idx) :=
  (View.set_reshape _ _).trans ((View.set_slice_whole _ _).trans (unit_set rfl _))
theorem rRM_set (s j : ℕ) (hs : s < 7) (hj : j < 8) : (sl7 rRM s j hs hj).view.set = (cut s j : Finset S7x128x1024.Idx) :=
  (View.set_reshape _ _).trans ((View.set_slice_whole _ _).trans (unit_set rfl _))
theorem oL_set (c : Dev nD) (t j : ℕ) (ht : t < 8) (hj : j < 8) :
    (oL c t j ht hj).view.set = (cut (ch (c.val + t)).val j : Finset S16x128x1024.Idx) :=
  (View.set_reshape _ _).trans ((View.set_slice_whole _ _).trans (unit_set (offL_eq c t j ht) _))
theorem oR_set (c : Dev nD) (t j : ℕ) (ht : t < 8) (hj : j < 8) :
    (oR c t j ht hj).view.set = (cut (ch (c.val + 16 - t)).val j : Finset S16x128x1024.Idx) :=
  (View.set_reshape _ _).trans ((View.set_slice_whole _ _).trans (unit_set (offR_eq c t j ht) _))
theorem rectO_set (c : Dev nD) (j : ℕ) (hj : j < 8) :
    (rectO c j hj).set = (cut (ch c.val).val j : Finset S16x128x1024.Idx) := by
  have h : (ch c.val).val = c.val := Nat.mod_eq_of_lt (dev_lt c)
  rw [h]; exact unit_set (offO_eq c j) _

end Cert.KernelIdeal.Ring

end
-- ==== Proof.Protocol.lean ====
/-
# The protocol of the ring

Every copy of a device is one `Cp`: a step and a slice of the reduce-scatter to the left or right (`sL`, `sR`) or
of the all-gather to the left or right (`gL`, `gR`). A copy `i` of device `c` goes to `peer i c`; its two
semaphores are used once, so every cell has one round. A send cell gives back the source slice, a receive cell the
slice that landed at its final contents. The barrier cell of a device has two duties: each neighbour pays one unit
and hands over the slices of its own buffers that the device's copies write.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The copies -/

/-- The copies of a device. -/
inductive Cp
  | sL (s j : Fin 8)
  | sR (s : Fin 7) (j : Fin 8)
  | gL (t j : Fin 8)
  | gR (t : Fin 7) (j : Fin 8)
  deriving DecidableEq

/-- The copies as a sum of products. -/
def cpEquiv : ((Fin 8 × Fin 8) ⊕ (Fin 7 × Fin 8)) ⊕ ((Fin 8 × Fin 8) ⊕ (Fin 7 × Fin 8)) ≃ Cp where
  toFun
    | .inl (.inl (s, j)) => .sL s j
    | .inl (.inr (s, j)) => .sR s j
    | .inr (.inl (s, j)) => .gL s j
    | .inr (.inr (s, j)) => .gR s j
  invFun
    | .sL s j => .inl (.inl (s, j))
    | .sR s j => .inl (.inr (s, j))
    | .gL s j => .inr (.inl (s, j))
    | .gR s j => .inr (.inr (s, j))
  left_inv x := by rcases x with (⟨_, _⟩ | ⟨_, _⟩) | (⟨_, _⟩ | ⟨_, _⟩) <;> rfl
  right_inv x := by cases x <;> rfl

instance : Fintype Cp := Fintype.ofEquiv _ cpEquiv

/-- Whether a copy goes to the left. -/
def Cp.left : Cp → Bool
  | .sL _ _ => true
  | .sR _ _ => false
  | .gL _ _ => true
  | .gR _ _ => false

/-- The device a copy goes to. -/
def peer (i : Cp) (c : Dev nD) : Dev nD := if i.left then lft c else rgt c
/-- The device whose copy arrives. -/
def frm (i : Cp) (c : Dev nD) : Dev nD := if i.left then rgt c else lft c
theorem frm_peer (i : Cp) (c : Dev nD) : frm i (peer i c) = c := by
  unfold frm peer; cases i.left
  · exact lft_rgt c
  · exact rgt_lft c
theorem peer_frm (i : Cp) (c : Dev nD) : peer i (frm i c) = c := by
  unfold frm peer; cases i.left
  · exact rgt_lft c
  · exact lft_rgt c

/-- A step to a copy's peer, as a permutation of the devices. -/
def peerE (i : Cp) : Dev nD ≃ Dev nD := ⟨peer i, frm i, frm_peer i, peer_frm i⟩

/-- The order in which a device waits for what arrives. -/
def Cp.stage : Cp → ℕ
  | .sL s _ => s.val
  | .sR s _ => s.val
  | .gL t _ => 8 + t.val
  | .gR t _ => 8 + t.val

/-! ## The semaphores -/

/-- A copy's send semaphore. -/
def sdS : Cp → DmaSem sig
  | .sL s j => sem64 cc0_scratch4 s.1 j.1 s.2 j.2
  | .sR s j => sem56 cc0_scratch6 s.1 j.1 s.2 j.2
  | .gL t j => sem64 cc0_scratch8 t.1 j.1 t.2 j.2
  | .gR t j => sem56 cc0_scratch10 t.1 j.1 t.2 j.2
/-- A copy's receive semaphore. -/
def rvS : Cp → DmaSem sig
  | .sL s j => sem64 cc0_scratch5 s.1 j.1 s.2 j.2
  | .sR s j => sem56 cc0_scratch7 s.1 j.1 s.2 j.2
  | .gL t j => sem64 cc0_scratch9 t.1 j.1 t.2 j.2
  | .gR t j => sem56 cc0_scratch11 t.1 j.1 t.2 j.2

/-- The semaphores of the ring: the barrier, a copy's send semaphore, a copy's receive semaphore. -/
abbrev Ck : Type := Option (Cp × Bool)

def osem : Cp × Bool → SemLoc sig
  | (i, false) => .dma (sdS i)
  | (i, true) => .dma (rvS i)
def csem : Ck → SemLoc sig
  | none => .reg barSem
  | some k => osem k

/-- The number of a copy's semaphore. -/
def semNo : Cp × Bool → ℕ
  | (.sL s j, false) => 2 + (8 * s.val + j.val)
  | (.sL s j, true) => 66 + (8 * s.val + j.val)
  | (.sR s j, false) => 130 + (8 * s.val + j.val)
  | (.sR s j, true) => 186 + (8 * s.val + j.val)
  | (.gL s j, false) => 242 + (8 * s.val + j.val)
  | (.gL s j, true) => 306 + (8 * s.val + j.val)
  | (.gR s j, false) => 370 + (8 * s.val + j.val)
  | (.gR s j, true) => 426 + (8 * s.val + j.val)

theorem semNo_ge (k : Cp × Bool) : 2 ≤ semNo k := by
  rcases k with ⟨_ | _ | _ | _, _ | _⟩ <;> simp only [semNo] <;> omega

theorem semNo_inj : Function.Injective semNo := by
  rintro ⟨_ | _ | _ | _, _ | _⟩ ⟨_ | _ | _ | _, _ | _⟩ h <;> simp only [semNo] at h <;>
    first
      | (exfalso; omega)
      | (simp only [Prod.mk.injEq, Cp.sL.injEq, Cp.sR.injEq, Cp.gL.injEq, Cp.gR.injEq, and_true]
         constructor <;> apply Fin.ext <;> omega)

theorem osem_no (k : Cp × Bool) : ∃ q : DmaSem sig, osem k = .dma q ∧ q.val = semNo k := by
  have h4 : ∀ s j : Fin 8, (sem64 cc0_scratch4 s.1 j.1 s.2 j.2).val = 2 + (8 * s.val + j.val) := by decide +kernel
  have h5 : ∀ s j : Fin 8, (sem64 cc0_scratch5 s.1 j.1 s.2 j.2).val = 66 + (8 * s.val + j.val) := by decide +kernel
  have h6 : ∀ (s : Fin 7) (j : Fin 8), (sem56 cc0_scratch6 s.1 j.1 s.2 j.2).val = 130 + (8 * s.val + j.val) := by decide +kernel
  have h7 : ∀ (s : Fin 7) (j : Fin 8), (sem56 cc0_scratch7 s.1 j.1 s.2 j.2).val = 186 + (8 * s.val + j.val) := by decide +kernel
  have h8 : ∀ s j : Fin 8, (sem64 cc0_scratch8 s.1 j.1 s.2 j.2).val = 242 + (8 * s.val + j.val) := by decide +kernel
  have h9 : ∀ s j : Fin 8, (sem64 cc0_scratch9 s.1 j.1 s.2 j.2).val = 306 + (8 * s.val + j.val) := by decide +kernel
  have h10 : ∀ (s : Fin 7) (j : Fin 8), (sem56 cc0_scratch10 s.1 j.1 s.2 j.2).val = 370 + (8 * s.val + j.val) := by decide +kernel
  have h11 : ∀ (s : Fin 7) (j : Fin 8), (sem56 cc0_scratch11 s.1 j.1 s.2 j.2).val = 426 + (8 * s.val + j.val) := by decide +kernel
  rcases k with ⟨⟨s, j⟩ | ⟨s, j⟩ | ⟨s, j⟩ | ⟨s, j⟩, _ | _⟩
  · exact ⟨_, rfl, h4 s j⟩
  · exact ⟨_, rfl, h5 s j⟩
  · exact ⟨_, rfl, h6 s j⟩
  · exact ⟨_, rfl, h7 s j⟩
  · exact ⟨_, rfl, h8 s j⟩
  · exact ⟨_, rfl, h9 s j⟩
  · exact ⟨_, rfl, h10 s j⟩
  · exact ⟨_, rfl, h11 s j⟩

theorem osem_inj : Function.Injective osem := by
  intro k k' h
  obtain ⟨q, hq, hn⟩ := osem_no k
  obtain ⟨q', hq', hn'⟩ := osem_no k'
  apply semNo_inj
  rw [← hn, ← hn']
  rw [hq, hq'] at h
  exact congrArg Fin.val (SemLoc.dma.inj h)

theorem osem_ne_bar (k : Cp × Bool) : osem k ≠ .reg barSem := by
  obtain ⟨q, hq, -⟩ := osem_no k
  rw [hq]; intro h; cases h

theorem csem_inj : Function.Injective csem := by
  rintro (_ | k) (_ | k') h
  · rfl
  · exact absurd h.symm (osem_ne_bar k')
  · exact absurd h (osem_ne_bar k)
  · exact congrArg some (osem_inj h)

open Classical in
/-- Which of the ring's semaphores one is. -/
def dec (g : SemLoc sig) : Option Ck := if h : ∃ k, csem k = g then some h.choose else none
theorem dec_csem (k : Ck) : dec (csem k) = some k := by
  have h : ∃ k', csem k' = csem k := ⟨k, rfl⟩
  unfold dec; rw [dif_pos h]; exact congrArg some (csem_inj h.choose_spec)
theorem csem_of_dec {g : SemLoc sig} {k : Ck} (h : dec g = some k) : csem k = g := by
  unfold dec at h
  split at h
  · next h' => rw [← Option.some.inj h]; exact h'.choose_spec
  · cases h

/-- The cells of the ring. -/
abbrev kcell (c : Dev nD) (k : Ck) : GSem nD τ sig := ((c : Thread nD τ), csem k)
abbrev barCell (c : Dev nD) : GSem nD τ sig := kcell c none
abbrev sdCell (c : Dev nD) (i : Cp) : GSem nD τ sig := kcell c (some (i, false))
abbrev rvCell (c : Dev nD) (i : Cp) : GSem nD τ sig := kcell c (some (i, true))

theorem kcell_inj : Function.Injective (fun p : Dev nD × Ck => kcell p.1 p.2) := by
  rintro ⟨c, k⟩ ⟨c', k'⟩ h
  have h1 : c = c' := congrArg (fun g : GSem nD τ sig => g.1.1) h
  have h2 : k = k' := csem_inj (congrArg Prod.snd h)
  rw [h1, h2]

/-- The units of a copy. -/
abbrev N : ℕ := (sl8 sLM 0 0 (by omega) (by omega)).view.dmaCredit
theorem N_pos : 0 < N := View.dmaCredit_pos _ (by decide)

/-! ## The slices held -/

/-- A part of a buffer of device `c`, held at contents `f`. -/
abbrev held (c : Dev nD) (b : Ref sig .tc) (I : Finset b.ty.Idx) (q : PosShare TreeShare) (f : b.ty.Contents (Elt F)) : sProp 𝕄 :=
  ((c : Thread nD τ).loc b) ↦[I]{q} f

variable (X : Dev nD → S1x2048x1024.Idx → V F)

abbrev sLf (c : Dev nD) : S8x128x1024.Idx → V F := full8 fun s => WL X s c
abbrev sRf (c : Dev nD) : S7x128x1024.Idx → V F := full7 fun s => WR X s c

/-- The share of its own chunk's slices a device lends to the copy to the left; the other half goes to the right. -/
def shL (t : ℕ) : PosShare TreeShare := if t = 0 then fullShare.left else fullShare
def shR (t : ℕ) : PosShare TreeShare := if t = 0 then fullShare.right else fullShare

/-- The source slice of copy `i` of device `c`, at the contents sent. -/
def srcP : Cp → Dev nD → sProp 𝕄
  | .sL s j, c => held c cc0_scratch0 (cut s.val j.val : Finset S8x128x1024.Idx) fullShare (sLf X c)
  | .sR s j, c => held c cc0_scratch1 (cut s.val j.val : Finset S7x128x1024.Idx) fullShare (sRf X c)
  | .gL t j, c => held c cc0_stg1_0 (cut (ch (c.val + t.val)).val j.val : Finset S16x128x1024.Idx) (shL t.val) (outF X)
  | .gR t j, c => held c cc0_stg1_0 (cut (ch (c.val + 16 - t.val)).val j.val : Finset S16x128x1024.Idx) (shR t.val) (outF X)

/-- The slice of device `c` on which copy `i` of its neighbour lands, at the contents landed. -/
def dstP : Cp → Dev nD → sProp 𝕄
  | .sL s j, c => held c cc0_scratch2 (cut s.val j.val : Finset S8x128x1024.Idx) fullShare (sLf X (rgt c))
  | .sR s j, c => held c cc0_scratch3 (cut s.val j.val : Finset S7x128x1024.Idx) fullShare (sRf X (lft c))
  | .gL t j, c => held c cc0_stg1_0 (cut (ch (c.val + 1 + t.val)).val j.val : Finset S16x128x1024.Idx) fullShare (outF X)
  | .gR t j, c => held c cc0_stg1_0 (cut (ch (c.val + 15 - t.val)).val j.val : Finset S16x128x1024.Idx) fullShare (outF X)

/-- The same slice at whatever contents. -/
def room : Cp → Dev nD → sProp 𝕄
  | .sL s j, c => iprop(∃ f, held c cc0_scratch2 (cut s.val j.val : Finset S8x128x1024.Idx) fullShare f)
  | .sR s j, c => iprop(∃ f, held c cc0_scratch3 (cut s.val j.val : Finset S7x128x1024.Idx) fullShare f)
  | .gL t j, c => iprop(∃ f, held c cc0_stg1_0 (cut (ch (c.val + 1 + t.val)).val j.val : Finset S16x128x1024.Idx) fullShare f)
  | .gR t j, c => iprop(∃ f, held c cc0_stg1_0 (cut (ch (c.val + 15 - t.val)).val j.val : Finset S16x128x1024.Idx) fullShare f)

/-- What a device holds of its own towards copy `i` before the copy: the slice it will store into. -/
def seed : Cp → Dev nD → sProp 𝕄
  | .sL s j, c => iprop(∃ f, held c cc0_scratch0 (cut s.val j.val : Finset S8x128x1024.Idx) fullShare f)
  | .sR s j, c => iprop(∃ f, held c cc0_scratch1 (cut s.val j.val : Finset S7x128x1024.Idx) fullShare f)
  | .gL t j, c => if t = 0 then iprop(∃ f, held c cc0_stg1_0 (cut (ch c.val).val j.val : Finset S16x128x1024.Idx) fullShare f) else iprop(emp)
  | .gR _ _, _ => iprop(emp)

omit [FloatOps F] in
instance held_storable (c : Dev nD) (b : Ref sig .tc) (I : Finset b.ty.Idx) (q : PosShare TreeShare) (f : b.ty.Contents (Elt F)) :
    BI.Storable (upEmb : UEmb _ 𝕄) (held c b I q f) := by unfold held; infer_instance
instance srcP_storable (i : Cp) (c : Dev nD) : BI.Storable (upEmb : UEmb _ 𝕄) (srcP X i c) := by
  cases i <;> (dsimp only [srcP]; infer_instance)
instance dstP_storable (i : Cp) (c : Dev nD) : BI.Storable (upEmb : UEmb _ 𝕄) (dstP X i c) := by
  cases i <;> (dsimp only [dstP]; infer_instance)
instance room_storable (i : Cp) (c : Dev nD) : BI.Storable (upEmb : UEmb _ 𝕄) (room (F := F) i c) := by
  cases i <;> (dsimp only [room]; infer_instance)

/-! ## The schedule -/

/-- What duty `d` of a barrier cell hands device `c`: the slices its copies to the left (`false`, paid by the left
    neighbour) or to the right (`true`, paid by the right one) write. -/
def barP (c : Dev nD) (d : Bool) : sProp 𝕄 :=
  bigSep (Finset.univ.filter fun i : Cp => i.left = !d) fun i => room (F := F) i (peer i c)

instance barP_storable (c : Dev nD) (d : Bool) : BI.Storable (upEmb : UEmb _ 𝕄) (barP (F := F) c d) := by
  unfold barP; infer_instance

def dutiesOf : Option Ck → Finset Bool
  | none => ∅
  | some none => Finset.univ
  | some (some _) => {false}
def amountOf' : Option Ck → ℕ
  | some none => 1
  | _ => N
def payOf (c : Dev nD) (d : Bool) : Option Ck → sProp 𝕄
  | none => iprop(emp)
  | some none => barP c d
  | some (some (i, false)) => srcP X i c
  | some (some (i, true)) => dstP X i c

instance payOf_storable (c : Dev nD) (d : Bool) (k : Option Ck) : BI.Storable (upEmb : UEmb _ 𝕄) (payOf X c d k) := by
  rcases k with _ | _ | ⟨i, _ | _⟩ <;> (dsimp only [payOf]; infer_instance)

/-- One round per cell. -/
def Rd : Rounds.Schedule (GSem nD τ sig) Bool 𝕄 where
  duties g r := if r = 0 ∧ g.1.2 = .tc then dutiesOf (dec g.2) else ∅
  unitless _ := False
  amount g _ _ := amountOf' (dec g.2)
  payload g _ d := payOf X g.1.1 d (dec g.2)
  amount_pos g _ _ _ := by
    rcases dec g.2 with _ | _ | k
    · exact N_pos
    · exact Nat.one_pos
    · exact N_pos

instance Rd_storable (g : GSem nD τ sig) (r : ℕ) (d : Bool) : BI.Storable (upEmb : UEmb _ 𝕄) ((Rd X).payload g r d) := by
  show BI.Storable upEmb (payOf X g.1.1 d (dec g.2)); infer_instance

section Sched
variable (c : Dev nD)

theorem duties_k (k : Ck) : (Rd X).duties (kcell c k) 0 = dutiesOf (some k) := by
  show (if 0 = 0 ∧ (kcell c k).1.2 = .tc then dutiesOf (dec (csem k)) else ∅) = _
  rw [if_pos ⟨rfl, rfl⟩, dec_csem]
theorem duties_later (g : GSem nD τ sig) : ∀ r, 1 ≤ r → (Rd X).duties g r = ∅ := fun r hr => by
  show (if r = 0 ∧ g.1.2 = .tc then dutiesOf (dec g.2) else ∅) = ∅
  rw [if_neg fun h => by omega]
theorem amount_k (k : Ck) (d : Bool) : (Rd X).amount (kcell c k) 0 d = amountOf' (some k) := by
  show amountOf' _ = _; rw [dec_csem]
theorem payload_k (k : Ck) (d : Bool) : (Rd X).payload (kcell c k) 0 d = payOf X c d (some k) := by
  show payOf X c d _ = _; rw [dec_csem]

theorem mem_duties (k : Cp × Bool) : false ∈ (Rd X).duties (kcell c (some k)) 0 := by
  rw [duties_k]; exact Finset.mem_singleton_self _
theorem expect_bar : (Rd X).expect (barCell c) 0 = 2 := by
  unfold Schedule.expect Schedule.amountOf
  rw [duties_k, Finset.sum_congr rfl fun d _ => amount_k X c none d]
  show ∑ _d : Bool, 1 = 2
  simp
theorem expect_cp (k : Cp × Bool) : (Rd X).expect (kcell c (some k)) 0 = N := by
  unfold Schedule.expect Schedule.amountOf
  rw [duties_k, Finset.sum_congr rfl fun d _ => amount_k X c (some k) d]
  exact Finset.sum_singleton _ _

theorem rest_bar : bigSep ((Rd X).duties (barCell c) 0 \ ∅) (fun d => (Rd X).payload (barCell c) 0 d)
    = bigSep Finset.univ fun i : Cp => room (F := F) i (peer i c) := by
  rw [Finset.sdiff_empty, duties_k, bigSep_congr fun d _ => payload_k X c none d]
  show bigSep (Finset.univ : Finset Bool) (fun d => barP c d) = _
  rw [bigSep_univ_eq_bigSepL [false, true] (by decide) (by decide), bigSepL_cons_cons, bigSepL_singleton]
  unfold barP
  rw [bigSep_filter_split Finset.univ (fun i : Cp => i.left = !false)]
  refine congrArg _ (congrArg (fun S => bigSep S _) (Finset.filter_congr fun i _ => ?_))
  cases i.left <;> decide
theorem rest_cp (k : Cp × Bool) : bigSep ((Rd X).duties (kcell c (some k)) 0 \ ∅) (fun d => (Rd X).payload (kcell c (some k)) 0 d)
    = payOf X c false (some (some k)) := by
  rw [Finset.sdiff_empty, duties_k, bigSep_congr fun d _ => payload_k X c (some k) d]
  exact bigSep_singleton

end Sched

/-! ## The phases of a copy, and what is owed -/

/-- How far a copy has come: not begun; its source slice stored; started; waited for; waited for with what landed
    passed on. -/
inductive Ph | todo | ready | flying | landed | spent
  deriving DecidableEq

/-- A copy not yet started. -/
def Ph.unsent : Ph → Bool
  | .todo => true
  | .ready => true
  | _ => false

/-- The credit device `c` still owes the receive cells of its copies. -/
def owe (c : Dev nD) (ph : Cp → Ph) : CellTallies nD τ sig Unit :=
  ∑ i : Cp, if (ph i).unsent = true then tallyAt (rvCell (peer i c) i) () N else 0

theorem owe_congr (c : Dev nD) {ph ph' : Cp → Ph} (h : ∀ i, (ph i).unsent = (ph' i).unsent) : owe c ph = owe c ph' :=
  Finset.sum_congr rfl fun i _ => by rw [h i]

theorem owe_send (c : Dev nD) (ph : Cp → Ph) (i : Cp) (h : (ph i).unsent = true) :
    owe c ph = owe c (Function.update ph i .flying) + tallyAt (rvCell (peer i c) i) () N := by
  unfold owe
  rw [← Finset.add_sum_erase _ _ (Finset.mem_univ i), ← Finset.add_sum_erase Finset.univ
    (fun k => if (Function.update ph i Ph.flying k).unsent = true then tallyAt (rvCell (peer k c) k) () N else 0) (Finset.mem_univ i)]
  rw [if_pos h, Function.update_self, if_neg (by decide), zero_add, add_comm]
  congr 1
  refine Finset.sum_congr rfl fun k hk => ?_
  rw [Function.update_of_ne (Finset.ne_of_mem_erase hk)]

theorem owe_pos {c : Dev nD} {ph : Cp → Ph} {g : GSem nD τ sig} {u : Unit} (h : 0 < owe c ph g u) :
    ∃ i, (ph i).unsent = true ∧ g = rvCell (peer i c) i := by
  by_contra hn
  push Not at hn
  have : owe c ph g u = 0 := by
    unfold owe
    rw [Finset.sum_apply, Finsupp.finset_sum_apply]
    refine Finset.sum_eq_zero fun i _ => ?_
    by_cases hi : (ph i).unsent = true
    · rw [if_pos hi, tallyAt_apply, if_neg fun h' => hn i hi h'.1]
    · rw [if_neg hi]; rfl
  omega

/-- What device `c` owes at launch: its copies' credit and a unit to each neighbour's barrier. -/
def O₁ (c : Dev nD) : CellTallies nD τ sig Unit := owe c (fun _ => .todo) + tallyAt (barCell (rgt c)) () 1
def O₀ (c : Dev nD) : CellTallies nD τ sig Unit := O₁ c + tallyAt (barCell (lft c)) () 1

theorem O₀_pos {c : Dev nD} {g : GSem nD τ sig} {u : Unit} (h : 0 < O₀ c g u) :
    (∃ i, g = rvCell (peer i c) i) ∨ ∃ d, g = barCell d := by
  unfold O₀ O₁ at h
  rw [Pi.add_apply, Finsupp.add_apply, Pi.add_apply, Finsupp.add_apply, tallyAt_apply, tallyAt_apply] at h
  by_contra hn
  rw [not_or] at hn
  rw [if_neg (fun h' => hn.2 ⟨_, h'.1⟩), if_neg (fun h' => hn.2 ⟨_, h'.1⟩)] at h
  obtain ⟨i, -, hi⟩ := owe_pos (c := c) (ph := fun _ => .todo) (g := g) (u := u) (by omega)
  exact hn.1 ⟨i, hi⟩

/-! ## The levels -/

def L (g : GSem nD τ sig) : Finset Unit := if g.1.2 = .tc then {()} else ∅
def lvOf : Option Ck → ℕ
  | some none => 1
  | some (some (i, true)) => 2 + i.stage
  | _ => 0
/-- The barrier at 1, the receive cells above it in the order they are waited on, everything else at 0. -/
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Ck) (u : Unit) : lv (kcell c k) u = lvOf (some k) := by
  show lvOf _ = _; rw [dec_csem]

/-- A device that owes receive cells only may wait on a semaphore below all of them. -/
theorem mayWait_owe (c : Dev nD) (sm : SemLoc sig) (ph : Cp → Ph) (b : ℕ) (hb : lvOf (dec sm) ≤ b)
    (h : ∀ i, (ph i).unsent = true → b < 2 + i.stage) :
    (levAts L lv : sProp 𝕄) ⊢ MayWait (c : Thread nD τ) sm () (owe c ph) :=
  MayOwe.of_cut (L := L) (lev := lv) b (fun p hp => by rw [Finset.mem_singleton.mp hp, L_tc]; exact Finset.mem_singleton_self _)
    (fun g u hg => by obtain ⟨i, -, rfl⟩ := owe_pos hg; exact Finset.mem_singleton_self _)
    (fun p hp => by rw [Finset.mem_singleton.mp hp]; exact hb)
    (fun g u hg => by obtain ⟨i, hi, rfl⟩ := owe_pos hg; rw [lv_k]; exact h i hi)

/-- Before the body a device may wait on a semaphore that is none of the ring's. -/
theorem mayWait_O₀ (c : Dev nD) (sm : SemLoc sig) (hb : dec sm = none) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by
      rcases O₀_pos hg with ⟨i, rfl⟩ | ⟨d, rfl⟩ <;> exact Finset.mem_singleton_self _)
    (fun p hp => by rw [Finset.mem_singleton.mp hp]; show lvOf (dec sm) ≤ 0; rw [hb]; exact le_refl 0)
    (fun g u hg => by
      rcases O₀_pos hg with ⟨i, rfl⟩ | ⟨d, rfl⟩
      · rw [lv_k]; show 0 < 2 + i.stage; omega
      · rw [lv_k]; exact Nat.one_pos)

end Cert.KernelIdeal.Ring

end
-- ==== Proof.Moves.lean ====
/-
# What a device holds between its operations, and the operations

`Res c i p` is what device `c` holds of its copy `i` in phase `p`, `Inv c ph` what it holds altogether when its
copies are in the phases `ph`. Each operation of the body is one lemma: if the rest of the program runs from the
phases after the operation, the program runs from the phases before it.
-/
module

public import proofs.«01_k».proof.Proof.Protocol

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (X : Dev nD → S1x2048x1024.Idx → V F) (K : Dev nD × Ck → ℕ)

/-! ## What is held -/

/-- The cells' invariants and that every cell is at its round. -/
def records : sProp 𝕄 :=
  iprop((bigSep Finset.univ fun p : Dev nD × Ck => cellInv ER (Rd X) (K p) (kcell p.1 p.2))
    ∗ bigSep Finset.univ fun p : Dev nD × Ck => reached ER (kcell p.1 p.2) 0)

instance records_persistent : BI.Persistent (records X K) := by unfold records; infer_instance

theorem inv_at (c : Dev nD) (k : Ck) : records X K ⊢ cellInv ER (Rd X) (K (c, k)) (kcell c k) :=
  sep_elim_left.trans
    (bigSep_elim (Φ := fun p : Dev nD × Ck => cellInv ER (Rd X) (K p) (kcell p.1 p.2)) (Finset.mem_univ (c, k)))
theorem reached_at (c : Dev nD) (k : Ck) : records X K ⊢ reached ER (kcell c k) 0 :=
  sep_elim_right.trans
    (bigSep_elim (Φ := fun p : Dev nD × Ck => (reached ER (kcell p.1 p.2) 0 : sProp 𝕄)) (Finset.mem_univ (c, k)))

/-- The ghost state of a copy not yet started. -/
def lin (c : Dev nD) (i : Cp) : sProp 𝕄 :=
  iprop(atPos ER (sdCell c i) 0 ∅ 0 ∗ atPos ER (rvCell c i) 0 ∅ 0
    ∗ dutyTok ER (sdCell c i) 0 false ∗ dutyTok ER (rvCell (peer i c) i) 0 false)

/-- What device `c` holds of copy `i` in a phase. -/
def Res (c : Dev nD) (i : Cp) : Ph → sProp 𝕄
  | .todo => iprop((lin c i ∗ cred (tallyAt (rvCell c i) () N) ∗ room i (peer i c)) ∗ seed i c)
  | .ready => iprop((lin c i ∗ cred (tallyAt (rvCell c i) () N) ∗ room i (peer i c)) ∗ srcP X i c)
  | .flying => iprop(atPos ER (sdCell c i) 0 ∅ 0 ∗ atPos ER (rvCell c i) 0 ∅ 0
      ∗ cred (tallyAt (rvCell c i) () N) ∗ cred (tallyAt (sdCell c i) () N))
  | .landed => iprop((semVal (sdCell c i) 0 ∗ semVal (rvCell c i) 0) ∗ srcP X i c ∗ dstP X i c)
  | .spent => iprop((semVal (sdCell c i) 0 ∗ semVal (rvCell c i) 0) ∗ srcP X i c)

/-- Device `c`'s block of the argument. -/
def xP (c : Dev nD) : sProp 𝕄 := held c cc0_stg0_0 (Finset.univ : Finset S1x2048x1024.Idx) fullShare (X c)

/-- What device `c` holds when its copies are in the phases `ph`. -/
def Inv (c : Dev nD) (ph : Cp → Ph) : sProp 𝕄 :=
  iprop(records X K ∗ levAts L lv ∗ (bigSep Finset.univ fun i => Res X c i (ph i))
    ∗ (∃ W, owes (c : Thread nD τ) (owe c ph) W) ∗ xP X c ∗ semVal (barCell c) 0)

/-- All copies but one. -/
def rest (c : Dev nD) (ph : Cp → Ph) (i : Cp) : sProp 𝕄 := bigSep (Finset.univ.erase i) fun k => Res X c k (ph k)

theorem res_out (c : Dev nD) (ph : Cp → Ph) (i : Cp) {p : Ph} (h : ph i = p) :
    (bigSep Finset.univ fun k => Res X c k (ph k)) = iprop(Res X c i p ∗ rest X c ph i) := by
  rw [bigSep_univ_split i, h]; rfl
theorem res_in (c : Dev nD) (ph : Cp → Ph) (i : Cp) (p : Ph) :
    (bigSep Finset.univ fun k => Res X c k (Function.update ph i p k)) = iprop(Res X c i p ∗ rest X c ph i) := by
  rw [bigSep_univ_split i, Function.update_self]
  refine congrArg _ (bigSep_congr fun k hk => ?_)
  rw [Function.update_of_ne (Finset.ne_of_mem_erase hk)]

/-- The programs run from what is held. -/
abbrev Runs (c : Dev nD) (P : sProp 𝕄) (p : Pr F) (Q : PUnit → sProp 𝕄) : Prop :=
  P ⊢ wp frame (wpE (defs₀ (F := F)) 𝒱₀ (c : Thread nD τ) none) Set.univ p Q

/-! ## Waits -/

/-- The two waits for a copy: its source slice comes back and the neighbour's copy has landed. -/
theorem wait_core (c : Dev nD) (i : Cp) (ph : Cp → Ph) (hi : ph i = .flying) {sS sV : DmaSem sig} (hsS : sS = sdS i) (hsV : sV = rvS i)
    (hst : ∀ k, (ph k).unsent = true → i.stage < k.stage) {a b a' b' : Memref sig .tc .vmem S16x1024 .bf16}
    {h1 : a.view.WordExact} {h2 : b.view.WordExact} {h3 : a'.view.WordExact} {h4 : b'.view.WordExact}
    (hb : b.view.dmaCredit = N) (hb' : b'.view.dmaCredit = N) (p : Pr F) (Q : PUnit → sProp 𝕄)
    (H : Runs c (Inv X K c (Function.update ph i .landed)) p Q) :
    Runs c (Inv X K c ph)
      (.op (.waitDma2 sS a b h1 h2) fun _ => .op (.waitDma2 sV a' b' h3 h4) fun _ => p) Q := by
  subst hsS; subst hsV
  have ho : owe c ph = owe c (Function.update ph i .landed) := owe_congr c fun k => by
    by_cases hk : k = i
    · subst hk; rw [hi, Function.update_self]; rfl
    · rw [Function.update_of_ne hk]
  have hS : bigSep ((Rd X).duties ((c : Thread nD τ), SemLoc.dma (sdS i)) 0 \ ∅)
      (fun d => (Rd X).payload ((c : Thread nD τ), SemLoc.dma (sdS i)) 0 d) = srcP X i c := rest_cp X c (i, false)
  have hV : bigSep ((Rd X).duties ((c : Thread nD τ), SemLoc.dma (rvS i)) 0 \ ∅)
      (fun d => (Rd X).payload ((c : Thread nD τ), SemLoc.dma (rvS i)) 0 d) = dstP X i c := rest_cp X c (i, true)
  unfold Runs
  unfold Inv at H ⊢
  rw [res_out X c ph i hi]
  iintro ⟨#HR, #Hlev, ⟨Hf, Hrest⟩, ⟨%W, HO⟩, Hx, Hbar⟩
  unfold Res
  icases Hf with ⟨HatS, HatV, HcV, HcS⟩
  iapply (Rounds.wp_wait_rest_token 𝒱₀ ER (Rd X) (c : Thread nD τ) none (κ := K (c, some (i, false)))
      (wpE_waitDma2_eq 𝒱₀ (c : Thread nD τ) none Set.univ) (Set.mem_univ _) () (O := owe c ph) (W := W) (R := 0) (m := 0) (T := ∅)
      (by rw [Nat.zero_add, hb]; exact (expect_cp X c (i, false)).symm)) $$ [HcS HO HatS]
  · isplitr; · iapply (inv_at X K c (some (i, false))); iexact HR
    isplitl [HcS]; · rw [hb]; iexact HcS
    isplitl [HO]; · iexact HO
    isplitr
    · iapply (mayWait_owe c (csem (some (i, false))) ph 0 (by rw [dec_csem]; exact le_refl 0) (fun k _ => by omega)); iexact Hlev
    iexact HatS
  iintro ⟨HO, HatS, -, Hpay⟩
  ihave Hsrc := (Entails.of_eq hS) $$ Hpay
  iapply (Rounds.wp_wait_rest_token 𝒱₀ ER (Rd X) (c : Thread nD τ) none (κ := K (c, some (i, true)))
      (wpE_waitDma2_eq 𝒱₀ (c : Thread nD τ) none Set.univ) (Set.mem_univ _) () (O := owe c ph) (W := _) (R := 0) (m := 0) (T := ∅)
      (by rw [Nat.zero_add, hb']; exact (expect_cp X c (i, true)).symm)) $$ [HcV HO HatV]
  · isplitr; · iapply (inv_at X K c (some (i, true))); iexact HR
    isplitl [HcV]; · rw [hb']; iexact HcV
    isplitl [HO]; · iexact HO
    isplitr
    · iapply (mayWait_owe c (csem (some (i, true))) ph (2 + i.stage) (by rw [dec_csem]; exact le_refl _)
        (fun k hk => by have := hst k hk; omega)); iexact Hlev
    iexact HatV
  iintro ⟨HO, HatV, -, Hpay⟩
  ihave Hdst := (Entails.of_eq hV) $$ Hpay
  imod (Rounds.cell_close ER (Rd X) (Set.mem_univ (K (c, some (i, false)))) (fun h => h) (R := 0 + 1) (duties_later X (sdCell c i))) $$ [HatS] with HzS
  · isplitr; · iapply (inv_at X K c (some (i, false))); iexact HR
    iexact HatS
  imod (Rounds.cell_close ER (Rd X) (Set.mem_univ (K (c, some (i, true)))) (fun h => h) (R := 0 + 1) (duties_later X (rvCell c i))) $$ [HatV] with HzV
  · isplitr; · iapply (inv_at X K c (some (i, true))); iexact HR
    iexact HatV
  iapply H
  isplitr; · iexact HR
  isplitr; · iexact Hlev
  isplitl [HzS HzV Hsrc Hdst Hrest]
  · rw [res_in X c ph i .landed]
    unfold Res
    isplitr [Hrest]
    · isplitl [HzS HzV]
      · isplitl [HzS]; · iexact HzS
        iexact HzV
      isplitl [Hsrc]; · iexact Hsrc
      iexact Hdst
    iexact Hrest
  isplitl [HO]
  · iexists _; rw [← ho]; iexact HO
  isplitl [Hx]; · iexact Hx
  iexact Hbar

/-! ## Copies -/

/-- Starting a copy whose source slice holds what is sent. -/
theorem send_core (c : Dev nD) (i : Cp) (ph : Cp → Ph) (hi : ph i = .ready) (n : Dev nD) (hn : n = peer i c)
    {sS sV : DmaSem sig} (hsS : sS = sdS i) (hsV : sV = rvS i)
    {src dst : Memref sig .tc .vmem S16x1024 .bf16}
    {hsc : (dst : Memref sig (Dev.tc n : Thread nD τ).2.kind .vmem S16x1024 .bf16).view.ref.isScScratch = false}
    {h1 : src.view.WordExact} {h2 : dst.view.WordExact}
    {h3 : DmaTarget.Typed .vmem (.dma sV) (.remote (Dev.tc n : Thread nD τ) dst (.dma sS) hsc)}
    {q : PosShare TreeShare} {fs : Buf (Elt F) (src.view.loc (c : Thread nD τ))}
    (hsrc : srcP X i c = (src.view.loc (c : Thread nD τ) ↦[src.view.set]{q} fs : sProp 𝕄))
    (hroom : room i (peer i c) = (iprop(∃ fd, dst.view.loc (peer i c : Thread nD τ) ↦[dst.view.set]{fullShare} fd) : sProp 𝕄))
    (hland : ∀ fd : Buf (Elt F) (dst.view.loc (peer i c : Thread nD τ)),
      (dst.view.loc (peer i c : Thread nD τ) ↦[dst.view.set]{fullShare}
        (dst.view.write (Elt F) fd (src.view.read (Elt F) fs) Finset.univ) : sProp 𝕄) ⊢ dstP X i (peer i c))
    (hN : dst.view.amount (.dma sV) = N) (p : Pr F) (Q : PUnit → sProp 𝕄)
    (H : Runs c (Inv X K c (Function.update ph i .flying)) p Q) :
    Runs c (Inv X K c ph)
      (.op (.enqueueDma src (.remote (Dev.tc n : Thread nD τ) dst (.dma sS) hsc) (.dma sV) h1 h2 h3) fun _ => p) Q := by
  subst hsS; subst hsV
  subst hn
  have ho := owe_send c ph i (by rw [hi]; rfl)
  unfold Runs
  unfold Inv at H ⊢
  rw [res_out X c ph i hi]
  iintro ⟨#HR, #Hlev, ⟨Hf, Hrest⟩, ⟨%W, HO⟩, Hx, Hbar⟩
  unfold Res lin
  icases Hf with ⟨⟨⟨HatS, HatV, HtS, HtV⟩, HcV, Hroom⟩, Hsrc⟩
  ihave Hsrc := (Entails.of_eq hsrc) $$ Hsrc
  ihave Hroom := (Entails.of_eq hroom) $$ Hroom
  icases Hroom with ⟨%fd, Hdst⟩
  iapply (Rounds.wp_send_pointsTo 𝒱₀ ER (Rd X) (c : Thread nD τ) none (c' := (peer i c : Thread nD τ))
    (sS := .dma (sdS i)) (sem := .dma (rvS i)) (src := src) (dst := dst)
    (κ₁ := K (c, some (i, false))) (κ₂ := K (peer i c, some (i, true)))
    (r₁ := 0) (r₂ := 0) (d₁ := false) (d₂ := false) (fd := fd) (fs := fs) (q := q)
    (mem_duties X c (i, false)) (mem_duties X (peer i c) (i, true))
    () () N hN (amount_k X c (some (i, false)) false) (amount_k X (peer i c) (some (i, true)) false)
    (owe c (Function.update ph i .flying)) ho (W := W)
    ((Entails.of_eq hsrc.symm).trans (Entails.of_eq (payload_k X c (some (i, false)) false).symm))
    ((hland fd).trans (Entails.of_eq (payload_k X (peer i c) (some (i, true)) false).symm))) $$ [HO HtS HtV Hsrc Hdst]
  · isplitr; · iapply (inv_at X K c (some (i, false))); iexact HR
    isplitr; · iapply (inv_at X K (peer i c) (some (i, true))); iexact HR
    isplitl [Hsrc]; · iexact Hsrc
    isplitl [Hdst]; · iexact Hdst
    isplitl [HO]; · iexact HO
    isplitl [HtS]; · iexact HtS
    isplitr; · iapply (reached_at X K c (some (i, false))); iexact HR
    isplitl [HtV]; · iexact HtV
    iapply (reached_at X K (peer i c) (some (i, true))); iexact HR
  iintro ⟨HcS, HO⟩
  iapply H
  isplitr; · iexact HR
  isplitr; · iexact Hlev
  isplitl [HatS HatV HcS HcV Hrest]
  · rw [res_in X c ph i .flying]
    unfold Res
    isplitr [Hrest]
    · isplitl [HatS]; · iexact HatS
      isplitl [HatV]; · iexact HatV
      isplitl [HcV]; · iexact HcV
      iexact HcS
    iexact Hrest
  isplitl [HO]
  · iexists _; iexact HO
  isplitl [Hx]; · iexact Hx
  iexact Hbar

end Cert.KernelIdeal.Ring

end
-- ==== Proof.Walk.lean ====
/-
# The blocks of the body, run

The phases of all copies are counted per family (to the left, to the right, in the reduce-scatter and in the
all-gather): how many were started and how many waited for. Each block of the body moves the counts by one.
-/
module

public import proofs.«01_k».proof.Proof.Moves

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1x2048x1024.Idx → V F) (K : Dev nD × Ck → ℕ)

/-! ## Counts -/

/-- A copy's family. -/
def Cp.fam : Cp → Fin 4
  | .sL _ _ => 0
  | .sR _ _ => 1
  | .gL _ _ => 2
  | .gR _ _ => 3
/-- A copy's place in its family. -/
def Cp.ix : Cp → ℕ
  | .sL s j => 8 * s.val + j.val
  | .sR s j => 8 * s.val + j.val
  | .gL t j => 8 * t.val + j.val
  | .gR t j => 8 * t.val + j.val
/-- A copy's last phase: the all-gather's landed slices but the last are passed on. -/
def Cp.fin : Cp → Ph
  | .gL t _ => if t.val = 7 then .landed else .spent
  | .gR t _ => if t.val = 6 then .landed else .spent
  | _ => .landed

theorem Cp.ext_ix {i k : Cp} (h : i.fam = k.fam) (h' : i.ix = k.ix) : i = k := by
  rcases i with ⟨a, b⟩ | ⟨a, b⟩ | ⟨a, b⟩ | ⟨a, b⟩ <;> rcases k with ⟨a', b'⟩ | ⟨a', b'⟩ | ⟨a', b'⟩ | ⟨a', b'⟩ <;>
    first
      | (exfalso; simp [Cp.fam] at h; done)
      | (simp only [Cp.ix] at h'
         have ha : a = a' := Fin.ext (by omega)
         have hb : b = b' := Fin.ext (by omega)
         subst ha; subst hb; rfl)

/-- The phases when `S` copies of each family were started and `W` waited for. -/
def ph (S W : Fin 4 → ℕ) (i : Cp) : Ph :=
  if i.ix < W i.fam then i.fin else if i.ix < S i.fam then .flying else .todo

theorem ph_send (S W : Fin 4 → ℕ) (i : Cp) (h : S i.fam = i.ix) (hw : W i.fam ≤ i.ix) :
    Function.update (ph S W) i .flying = ph (Function.update S i.fam (i.ix + 1)) W := by
  funext k
  by_cases hk : k = i
  · subst hk; rw [Function.update_self]; unfold ph; rw [Function.update_self, if_neg (by omega), if_pos (by omega)]
  · rw [Function.update_of_ne hk]
    unfold ph
    by_cases hf : k.fam = i.fam
    · have hne : k.ix ≠ i.ix := fun e => hk (Cp.ext_ix hf e)
      rw [hf, Function.update_self, h]
      by_cases h1 : k.ix < W i.fam
      · rw [if_pos h1, if_pos h1]
      · rw [if_neg h1, if_neg h1]
        by_cases h2 : k.ix < i.ix
        · rw [if_pos h2, if_pos (by omega)]
        · rw [if_neg h2, if_neg (by omega)]
    · rw [Function.update_of_ne hf]

theorem ph_wait (S W : Fin 4 → ℕ) (i : Cp) (h : W i.fam = i.ix) :
    Function.update (ph S W) i i.fin = ph S (Function.update W i.fam (i.ix + 1)) := by
  funext k
  by_cases hk : k = i
  · subst hk; rw [Function.update_self]; unfold ph; rw [Function.update_self, if_pos (by omega)]
  · rw [Function.update_of_ne hk]
    unfold ph
    by_cases hf : k.fam = i.fam
    · have hne : k.ix ≠ i.ix := fun e => hk (Cp.ext_ix hf e)
      rw [hf, Function.update_self, h]
      by_cases h1 : k.ix < i.ix
      · rw [if_pos h1, if_pos (show k.ix < i.ix + 1 by omega)]
      · rw [if_neg h1, if_neg (show ¬ k.ix < i.ix + 1 by omega)]
    · rw [Function.update_of_ne hf]

theorem ph_todo (S W : Fin 4 → ℕ) (i : Cp) (h : S i.fam ≤ i.ix) (hw : W i.fam ≤ i.ix) : ph S W i = .todo := by
  unfold ph; rw [if_neg (by omega), if_neg (by omega)]
theorem ph_flying (S W : Fin 4 → ℕ) (i : Cp) (h : i.ix < S i.fam) (hw : W i.fam ≤ i.ix) : ph S W i = .flying := by
  unfold ph; rw [if_neg (by omega), if_pos h]
theorem ph_fin (S W : Fin 4 → ℕ) (i : Cp) (h : i.ix < W i.fam) : ph S W i = i.fin := by
  unfold ph; rw [if_pos h]
theorem fin_sent (i : Cp) : i.fin.unsent = false := by
  rcases i with _ | _ | ⟨t, _⟩ | ⟨t, _⟩ <;> first | rfl | (simp only [Cp.fin]; split <;> rfl)
theorem of_unsent {S W : Fin 4 → ℕ} {i : Cp} (h : (ph S W i).unsent = true) : S i.fam ≤ i.ix := by
  by_contra hn
  unfold ph at h
  by_cases h1 : i.ix < W i.fam
  · rw [if_pos h1, fin_sent] at h; cases h
  · rw [if_neg h1, if_pos (by omega)] at h; cases h

theorem upd0 (a b c d x : ℕ) : Function.update ![a, b, c, d] 0 x = ![x, b, c, d] := by funext i; fin_cases i <;> rfl
theorem upd1 (a b c d x : ℕ) : Function.update ![a, b, c, d] 1 x = ![a, x, c, d] := by funext i; fin_cases i <;> rfl
theorem upd2 (a b c d x : ℕ) : Function.update ![a, b, c, d] 2 x = ![a, b, x, d] := by funext i; fin_cases i <;> rfl
theorem upd3 (a b c d x : ℕ) : Function.update ![a, b, c, d] 3 x = ![a, b, c, x] := by funext i; fin_cases i <;> rfl

/-! ## Taking out and putting back what a copy holds -/

/-- A copy's holdings may be exchanged for another phase's that owes the same. -/
theorem res_acc (c : Dev nD) (φ : Cp → Ph) (i : Cp) (p p' : Ph) (h : φ i = p) (hu : p.unsent = p'.unsent) :
    Inv X K c φ ⊢ iprop(Res X c i p ∗ (Res X c i p' -∗ Inv X K c (Function.update φ i p'))) := by
  have ho : owe c φ = owe c (Function.update φ i p') := owe_congr c fun k => by
    by_cases hk : k = i
    · subst hk; rw [h, Function.update_self]; exact hu
    · rw [Function.update_of_ne hk]
  unfold Inv
  rw [res_out X c φ i h, res_in X c φ i p', ← ho]
  iintro ⟨#HR, #Hlev, ⟨Hf, Hrest⟩, HO, Hx, Hbar⟩
  isplitl [Hf]; · iexact Hf
  iintro Hf
  isplitr; · iexact HR
  isplitr; · iexact Hlev
  isplitl [Hf Hrest]
  · isplitl [Hf]; · iexact Hf
    iexact Hrest
  isplitl [HO]; · iexact HO
  isplitl [Hx]; · iexact Hx
  iexact Hbar

/-- Storing: the slice to store into comes out, and goes back with what is sent. -/
theorem seed_acc (c : Dev nD) (φ : Cp → Ph) (i : Cp) (h : φ i = .todo) :
    Inv X K c φ ⊢ iprop(seed i c ∗ (srcP X i c -∗ Inv X K c (Function.update φ i .ready))) := by
  refine (res_acc X K c φ i .todo .ready h rfl).trans ?_
  dsimp only [Res]
  iintro ⟨⟨Hl, Hs⟩, Hw⟩
  isplitl [Hs]; · iexact Hs
  iintro Hs
  iapply Hw
  isplitl [Hl]; · iexact Hl
  iexact Hs

/-- What has landed may be read. -/
theorem landed_acc (c : Dev nD) (φ : Cp → Ph) (i : Cp) (h : φ i = .landed) :
    Inv X K c φ ⊢ iprop(dstP X i c ∗ (dstP X i c -∗ Inv X K c φ)) := by
  refine (res_acc X K c φ i .landed .landed h rfl).trans ?_
  have hu : Function.update φ i .landed = φ := by rw [← h]; exact Function.update_eq_self i φ
  rw [hu]
  dsimp only [Res]
  iintro ⟨⟨Hl, Hs, Hd⟩, Hw⟩
  isplitl [Hd]; · iexact Hd
  iintro Hd
  iapply Hw
  isplitl [Hl]; · iexact Hl
  isplitl [Hs]; · iexact Hs
  iexact Hd

/-- What has landed may be taken. -/
theorem landed_take (c : Dev nD) (φ : Cp → Ph) (i : Cp) (h : φ i = .landed) :
    Inv X K c φ ⊢ iprop(dstP X i c ∗ Inv X K c (Function.update φ i .spent)) := by
  refine (res_acc X K c φ i .landed .spent h rfl).trans ?_
  dsimp only [Res]
  iintro ⟨⟨Hl, Hs, Hd⟩, Hw⟩
  isplitl [Hd]; · iexact Hd
  iapply Hw
  isplitl [Hl]; · iexact Hl
  iexact Hs

/-- Passing on: what one copy landed is what the next sends. -/
theorem pass_on (c : Dev nD) (φ : Cp → Ph) (i k : Cp) (hi : φ i = .landed) (hk : φ k = .todo) (hik : dstP X i c = srcP X k c) :
    Inv X K c φ ⊢ Inv X K c (Function.update (Function.update φ i .spent) k .ready) := by
  have hne : k ≠ i := fun e => by rw [e, hi] at hk; cases hk
  refine (landed_take X K c φ i hi).trans ?_
  rw [hik]
  iintro ⟨Hs, HI⟩
  ihave H := (seed_acc X K c (Function.update φ i .spent) k (by rw [Function.update_of_ne hne]; exact hk)) $$ HI
  icases H with ⟨-, Hw⟩
  iapply Hw
  iexact Hs

/-! ## Loads and stores -/

/-- A load from elements held within what is held. -/
theorem load_core (c : Dev nD) (P : sProp 𝕄) {s : Shape} (m : Memref sig .tc .vmem s .bf16) (r : Rect s)
    {hl : m.view.LoadsAt r.toLoadRect}
    (S : Finset (Idx (m.view.loc (c : Thread nD τ)))) (q : PosShare TreeShare) (f : Buf (Elt F) (m.view.loc (c : Thread nD τ)))
    (hS : (m.access r).set ⊆ S)
    (hP : P ⊢ iprop((m.view.loc (c : Thread nD τ) ↦[S]{q} f) ∗ ((m.view.loc (c : Thread nD τ) ↦[S]{q} f) -∗ P)))
    (v : r.toLoadRect.shape.Idx → Elt F .bf16) (hv : m.view.readAt (Elt F) r.toLoadRect f = v)
    (k : (r.toLoadRect.shape.Idx → Elt F .bf16) → Pr F) (Q : PUnit → sProp 𝕄)
    (H : Runs c P (k v) Q) : Runs c P (.op (.load m r.toLoadRect hl) k) Q := by
  refine hP.trans ?_
  iintro ⟨Hf, Hw⟩
  iapply (wp_load 𝒱₀ (c : Thread nD τ) none Set.univ (m := m) (r := r.toLoadRect) (S := S) (by rwa [View.set_slice] at hS)) $$ Hf
  iintro Hf
  rw [hv]
  iapply H
  iapply Hw
  iexact Hf

/-- A store to elements held, after a load of them: they come back at what the stored vector makes of them. -/
theorem store_core (c : Dev nD) (P P' : sProp 𝕄) {s : Shape} (m : Memref sig .tc .vmem s .bf16) (r : Rect s)
    {hl : m.view.LoadsAt r.toLoadRect} (w : r.shape.Idx → Elt F .bf16) {hx : (m.access r).Stores Finset.univ}
    {hm : (Finset.univ : Finset r.shape.Idx) = Finset.univ ∨ ∀ a, r.stride a = 1}
    (S : Finset (Idx (m.view.loc (c : Thread nD τ)))) (f : Buf (Elt F) (m.view.loc (c : Thread nD τ)))
    (hS : (m.access r).set ⊆ S)
    (hw : ∀ g : Buf (Elt F) (m.view.loc (c : Thread nD τ)), ∀ x ∈ S, (m.access r).write (Elt F) g w Finset.univ x = f x)
    (hP : P ⊢ iprop((∃ g, m.view.loc (c : Thread nD τ) ↦[S]{fullShare} g)
      ∗ ((m.view.loc (c : Thread nD τ) ↦[S]{fullShare} f) -∗ P')))
    (p : Pr F) (Q : PUnit → sProp 𝕄) (H : Runs c P' p Q) :
    Runs c P (.op (.load m r.toLoadRect hl) fun _ => .op (.store m r w Finset.univ hx hm) fun _ => p) Q := by
  refine hP.trans ?_
  iintro ⟨⟨%g, Hf⟩, Hw⟩
  iapply (wp_load 𝒱₀ (c : Thread nD τ) none Set.univ (m := m) (r := r.toLoadRect) (S := S) (by rwa [View.set_slice] at hS)) $$ Hf
  iintro Hf
  iapply (wp_store 𝒱₀ (c : Thread nD τ) none Set.univ (m := m) (r := r) (Mk := Finset.univ) (S := S) hS) $$ Hf
  iintro Hf
  ihave Hf := (Entails.of_eq (pointsTo_congr (hw g))) $$ Hf
  iapply H
  iapply Hw
  iexact Hf

end Cert.KernelIdeal.Ring

end
-- ==== Proof.Blocks.lean ====
/-
# The blocks of the body

Each operation of the body at its own slice, then each block from the counts before it to the counts after it.
-/
module

public import proofs.«01_k».proof.Proof.Walk

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1x2048x1024.Idx → V F) (K : Dev nD × Ck → ℕ)

/-! ## Copies of the four families -/

abbrev iL (s j : ℕ) (hs : s < 8) (hj : j < 8) : Cp := .sL ⟨s, hs⟩ ⟨j, hj⟩
abbrev iR (s j : ℕ) (hs : s < 7) (hj : j < 8) : Cp := .sR ⟨s, hs⟩ ⟨j, hj⟩
abbrev jL (t j : ℕ) (ht : t < 8) (hj : j < 8) : Cp := .gL ⟨t, ht⟩ ⟨j, hj⟩
abbrev jR (t j : ℕ) (ht : t < 7) (hj : j < 8) : Cp := .gR ⟨t, ht⟩ ⟨j, hj⟩

theorem ch_left (c : Dev nD) (t : ℕ) : ch ((lft c).val + 1 + t) = ch (c.val + t) :=
  Fin.ext (by show ((c.val + 15) % 16 + 1 + t) % 16 = (c.val + t) % 16; omega)
theorem ch_right (c : Dev nD) (t : ℕ) (ht : t < 8) : ch ((rgt c).val + 15 - t) = ch (c.val + 16 - t) :=
  Fin.ext (by show ((c.val + 1) % 16 + 15 - t) % 16 = (c.val + 16 - t) % 16; omega)

/-! ## Starting a copy -/

theorem sendL (c : Dev nD) (φ : Cp → Ph) (s j : ℕ) (hs : s < 8) (hj : j < 8) (h : φ (iL s j hs hj) = .ready)
    (p : Pr F) (Q : PUnit → sProp 𝕄) (H : Runs c (Inv X K c (Function.update φ (iL s j hs hj) .flying)) p Q) :
    Runs c (Inv X K c φ) (enqL c s j hs hj p) Q := by
  unfold enqL
  refine send_core X K c (iL s j hs hj) φ h (lftD c) (lftD_eq c) ?_ ?_ (q := fullShare) (fs := sLf X c) ?_ ?_ ?_ ?_ p Q H
  · rfl
  · rfl
  · show held c cc0_scratch0 _ _ _ = held c cc0_scratch0 (sl8 sLM s j hs hj).view.set fullShare (sLf X c)
    rw [sLM_set]
  · show iprop(∃ f, held (lft c) cc0_scratch2 _ _ f) = iprop(∃ f, held (lft c) cc0_scratch2 (sl8 rLM s j hs hj).view.set fullShare f)
    rw [rLM_set]
  · intro fd
    refine Entails.of_eq ?_
    refine (pointsTo_congr (land_on (sl8 rLM s j hs hj).view (sl8 sLM s j hs hj).view fd (sLf X c) (sLf X c) (land8 _ s j hs hj))).trans ?_
    show held (lft c) cc0_scratch2 (sl8 rLM s j hs hj).view.set fullShare (sLf X c) = held (lft c) cc0_scratch2 _ fullShare (sLf X (rgt (lft c)))
    rw [rLM_set, rgt_lft]
  · rfl

theorem sendR (c : Dev nD) (φ : Cp → Ph) (s j : ℕ) (hs : s < 7) (hj : j < 8) (h : φ (iR s j hs hj) = .ready)
    (p : Pr F) (Q : PUnit → sProp 𝕄) (H : Runs c (Inv X K c (Function.update φ (iR s j hs hj) .flying)) p Q) :
    Runs c (Inv X K c φ) (enqR c s j hs hj p) Q := by
  unfold enqR
  refine send_core X K c (iR s j hs hj) φ h (rgtD c) (rgtD_eq c) ?_ ?_ (q := fullShare) (fs := sRf X c) ?_ ?_ ?_ ?_ p Q H
  · rfl
  · rfl
  · show held c cc0_scratch1 _ _ _ = held c cc0_scratch1 (sl7 sRM s j hs hj).view.set fullShare (sRf X c)
    rw [sRM_set]
  · show iprop(∃ f, held (rgt c) cc0_scratch3 _ _ f) = iprop(∃ f, held (rgt c) cc0_scratch3 (sl7 rRM s j hs hj).view.set fullShare f)
    rw [rRM_set]
  · intro fd
    refine Entails.of_eq ?_
    refine (pointsTo_congr (land_on (sl7 rRM s j hs hj).view (sl7 sRM s j hs hj).view fd (sRf X c) (sRf X c) (land7 _ s j hs hj))).trans ?_
    show held (rgt c) cc0_scratch3 (sl7 rRM s j hs hj).view.set fullShare (sRf X c) = held (rgt c) cc0_scratch3 _ fullShare (sRf X (lft (rgt c)))
    rw [rRM_set, lft_rgt]
  · rfl

theorem sendGL (c : Dev nD) (φ : Cp → Ph) (t j : ℕ) (ht : t < 8) (hj : j < 8) (h : φ (jL t j ht hj) = .ready)
    (p : Pr F) (Q : PUnit → sProp 𝕄) (H : Runs c (Inv X K c (Function.update φ (jL t j ht hj) .flying)) p Q) :
    Runs c (Inv X K c φ) (enqGL c t j ht hj p) Q := by
  unfold enqGL
  refine send_core X K c (jL t j ht hj) φ h (lftD c) (lftD_eq c) ?_ ?_ (q := shL t) (fs := outF X) ?_ ?_ ?_ ?_ p Q H
  · rfl
  · rfl
  · show held c cc0_stg1_0 _ _ _ = held c cc0_stg1_0 (oL c t j ht hj).view.set (shL t) (outF X)
    rw [oL_set]
  · show iprop(∃ f, held (lft c) cc0_stg1_0 (cut (ch ((lft c).val + 1 + t)).val j : Finset S16x128x1024.Idx) fullShare f)
      = iprop(∃ f, held (lft c) cc0_stg1_0 (oL c t j ht hj).view.set fullShare f)
    rw [oL_set, ch_left]
  · intro fd
    refine Entails.of_eq ?_
    refine (pointsTo_congr (land_on (oL c t j ht hj).view (oL c t j ht hj).view fd (outF X) (outF X) rfl)).trans ?_
    show held (lft c) cc0_stg1_0 (oL c t j ht hj).view.set fullShare (outF X)
      = held (lft c) cc0_stg1_0 (cut (ch ((lft c).val + 1 + t)).val j : Finset S16x128x1024.Idx) fullShare (outF X)
    rw [oL_set, ch_left]
  · rfl

theorem sendGR (c : Dev nD) (φ : Cp → Ph) (t j : ℕ) (ht : t < 7) (hj : j < 8) (h : φ (jR t j ht hj) = .ready)
    (p : Pr F) (Q : PUnit → sProp 𝕄) (H : Runs c (Inv X K c (Function.update φ (jR t j ht hj) .flying)) p Q) :
    Runs c (Inv X K c φ) (enqGR c t j ht hj p) Q := by
  unfold enqGR
  refine send_core X K c (jR t j ht hj) φ h (rgtD c) (rgtD_eq c) ?_ ?_ (q := shR t) (fs := outF X) ?_ ?_ ?_ ?_ p Q H
  · rfl
  · rfl
  · show held c cc0_stg1_0 _ _ _ = held c cc0_stg1_0 (oR c t j (Nat.lt_succ_of_lt ht) hj).view.set (shR t) (outF X)
    rw [oR_set]
  · show iprop(∃ f, held (rgt c) cc0_stg1_0 (cut (ch ((rgt c).val + 15 - t)).val j : Finset S16x128x1024.Idx) fullShare f)
      = iprop(∃ f, held (rgt c) cc0_stg1_0 (oR c t j (Nat.lt_succ_of_lt ht) hj).view.set fullShare f)
    rw [oR_set, ch_right c t (by omega)]
  · intro fd
    refine Entails.of_eq ?_
    refine (pointsTo_congr (land_on (oR c t j (Nat.lt_succ_of_lt ht) hj).view (oR c t j (Nat.lt_succ_of_lt ht) hj).view fd (outF X) (outF X) rfl)).trans ?_
    show held (rgt c) cc0_stg1_0 (oR c t j (Nat.lt_succ_of_lt ht) hj).view.set fullShare (outF X)
      = held (rgt c) cc0_stg1_0 (cut (ch ((rgt c).val + 15 - t)).val j : Finset S16x128x1024.Idx) fullShare (outF X)
    rw [oR_set, ch_right c t (by omega)]
  · rfl

/-! ## Waiting for a copy -/

section Waits
variable (c : Dev nD) (φ : Cp → Ph)

theorem awaitL (s j : ℕ) (hs : s < 8) (hj : j < 8) (h : φ (iL s j hs hj) = .flying) (hst : ∀ k, (φ k).unsent = true → s < k.stage)
    (p : Pr F) (Q : PUnit → sProp 𝕄) (H : Runs c (Inv X K c (Function.update φ (iL s j hs hj) .landed)) p Q) : Runs c (Inv X K c φ) (waitL s j hs hj p) Q := by
  unfold waitL; refine wait_core X K c (iL s j hs hj) φ h ?_ ?_ hst ?_ ?_ p Q H <;> rfl
theorem awaitR (s j : ℕ) (hs : s < 7) (hj : j < 8) (h : φ (iR s j hs hj) = .flying) (hst : ∀ k, (φ k).unsent = true → s < k.stage)
    (p : Pr F) (Q : PUnit → sProp 𝕄) (H : Runs c (Inv X K c (Function.update φ (iR s j hs hj) .landed)) p Q) : Runs c (Inv X K c φ) (waitR s j hs hj p) Q := by
  unfold waitR; refine wait_core X K c (iR s j hs hj) φ h ?_ ?_ hst ?_ ?_ p Q H <;> rfl
theorem awaitGL (t j : ℕ) (ht : t < 8) (hj : j < 8) (h : φ (jL t j ht hj) = .flying) (hst : ∀ k, (φ k).unsent = true → 8 + t < k.stage)
    (p : Pr F) (Q : PUnit → sProp 𝕄) (H : Runs c (Inv X K c (Function.update φ (jL t j ht hj) .landed)) p Q) : Runs c (Inv X K c φ) (waitGL c t j ht hj p) Q := by
  unfold waitGL; refine wait_core X K c (jL t j ht hj) φ h ?_ ?_ hst ?_ ?_ p Q H <;> rfl
theorem awaitGR (t j : ℕ) (ht : t < 7) (hj : j < 8) (h : φ (jR t j ht hj) = .flying) (hst : ∀ k, (φ k).unsent = true → 8 + t < k.stage)
    (p : Pr F) (Q : PUnit → sProp 𝕄) (H : Runs c (Inv X K c (Function.update φ (jR t j ht hj) .landed)) p Q) : Runs c (Inv X K c φ) (waitGR c t j ht hj p) Q := by
  unfold waitGR; refine wait_core X K c (jR t j ht hj) φ h ?_ ?_ hst ?_ ?_ p Q H <;> rfl

/-! ## Loads -/

theorem x_acc : Inv X K c φ ⊢ iprop(xP X c ∗ (xP X c -∗ Inv X K c φ)) := by
  unfold Inv
  iintro ⟨#HR, #Hlev, Hf, HO, Hx, Hbar⟩
  isplitl [Hx]; · iexact Hx
  iintro Hx
  isplitr; · iexact HR
  isplitr; · iexact Hlev
  isplitl [Hf]; · iexact Hf
  isplitl [HO]; · iexact HO
  isplitl [Hx]; · iexact Hx
  iexact Hbar

theorem readX1 (s j : ℕ) (hs : s < 8) (hj : j < 8) (k : Vec F S1x16x1024 .bf16 → Pr F) (Q : PUnit → sProp 𝕄)
    (H : Runs c (Inv X K c φ) (k (slab (xat X c (ch (c.val + 8 + s))) j hj)) Q) : Runs c (Inv X K c φ) (loadX1 c s j hs hj k) Q :=
  load_core c _ xM (Rect.unit (s := S1x2048x1024) (k0_off1 c (BitVec.ofNat 32 s) (BitVec.ofNat 32 (16 * j)))
    S1x16x1024.size (k0_off1_inb c ⟨s, hs⟩ ⟨j, hj⟩)) Finset.univ fullShare (X c) (Finset.subset_univ _) (x_acc X K c φ) _
    (read_x X c (ch (c.val + 8 + s)) j hj (off1_eq c s j hs hj) _) k Q H
theorem readX2 (s j : ℕ) (hs : s < 7) (hj : j < 8) (k : Vec F S1x16x1024 .bf16 → Pr F) (Q : PUnit → sProp 𝕄)
    (H : Runs c (Inv X K c φ) (k (slab (xat X c (ch (c.val + 7 - s))) j hj)) Q) : Runs c (Inv X K c φ) (loadX2 c s j hs hj k) Q :=
  load_core c _ xM (Rect.unit (s := S1x2048x1024) (k0_off2 c (BitVec.ofNat 32 s) (BitVec.ofNat 32 (16 * j)))
    S1x16x1024.size (k0_off2_inb c ⟨s, hs⟩ ⟨j, hj⟩)) Finset.univ fullShare (X c) (Finset.subset_univ _) (x_acc X K c φ) _
    (read_x X c (ch (c.val + 7 - s)) j hj (off2_eq c s j hs hj) _) k Q H
theorem readX3 (j : ℕ) (hj : j < 8) (k : Vec F S1x16x1024 .bf16 → Pr F) (Q : PUnit → sProp 𝕄)
    (H : Runs c (Inv X K c φ) (k (slab (xat X c (ch c.val)) j hj)) Q) : Runs c (Inv X K c φ) (loadX3 c j hj k) Q :=
  load_core c _ xM (Rect.unit (s := S1x2048x1024) (k0_off3 c (BitVec.ofNat 32 (16 * j)))
    S1x16x1024.size (k0_off3_inb c ⟨j, hj⟩)) Finset.univ fullShare (X c) (Finset.subset_univ _) (x_acc X K c φ) _
    (read_x X c (ch c.val) j hj (off3_eq c j hj) _) k Q H
theorem readL (s j : ℕ) (hs : s < 8) (hj : j < 8) (h : φ (iL s j hs hj) = .landed) (k : Vec F S1x16x1024 .bf16 → Pr F) (Q : PUnit → sProp 𝕄)
    (H : Runs c (Inv X K c φ) (k (slab (WL X s (rgt c)) j hj)) Q) : Runs c (Inv X K c φ) (load8 rLM s j hs hj k) Q :=
  load_core c _ rLM (rect8 s j hs hj) (cut s j : Finset S8x128x1024.Idx) fullShare (sLf X (rgt c)) ((View.set_slice_whole _ _).trans (set8 s j hs hj)).subset
    (landed_acc X K c φ (iL s j hs hj) h) _ (read_rL (fun s => WL X s (rgt c)) s j hs hj) k Q H
theorem readR (s j : ℕ) (hs : s < 7) (hj : j < 8) (h : φ (iR s j hs hj) = .landed) (k : Vec F S1x16x1024 .bf16 → Pr F) (Q : PUnit → sProp 𝕄)
    (H : Runs c (Inv X K c φ) (k (slab (WR X s (lft c)) j hj)) Q) : Runs c (Inv X K c φ) (load7 rRM s j hs hj k) Q :=
  load_core c _ rRM (rect7 s j hs hj) (cut s j : Finset S7x128x1024.Idx) fullShare (sRf X (lft c)) ((View.set_slice_whole _ _).trans (set7 s j hs hj)).subset
    (landed_acc X K c φ (iR s j hs hj) h) _ (read_rR (fun s => WR X s (lft c)) s j hs hj) k Q H

/-! ## Stores -/

theorem putL (s j : ℕ) (hs : s < 8) (hj : j < 8) (h : φ (iL s j hs hj) = .todo) (v : FVec F S1x16x1024 .bf16)
    (hv : v = slab (WL X s c) j hj) (p : Pr F) (Q : PUnit → sProp 𝕄) (H : Runs c (Inv X K c (Function.update φ (iL s j hs hj) .ready)) p Q) :
    Runs c (Inv X K c φ) (load8 sLM s j hs hj fun _ => store8 s j hs hj v p) Q :=
  store_core c _ _ sLM (rect8 s j hs hj) v (cut s j : Finset S8x128x1024.Idx) (sLf X c) ((View.set_slice_whole _ _).trans (set8 s j hs hj)).subset
    (fun g x hx => write_on (b := cc0_scratch0) (rect8 s j hs hj) g (sLf X c) v
      (fun y => (congrFun hv y).trans (slab8 (fun s => WL X s c) s j hs hj y)) x (by rw [set8]; exact hx)) (seed_acc X K c φ (iL s j hs hj) h) p Q H
theorem putR (s j : ℕ) (hs : s < 7) (hj : j < 8) (h : φ (iR s j hs hj) = .todo) (v : FVec F S1x16x1024 .bf16)
    (hv : v = slab (WR X s c) j hj) (p : Pr F) (Q : PUnit → sProp 𝕄) (H : Runs c (Inv X K c (Function.update φ (iR s j hs hj) .ready)) p Q) :
    Runs c (Inv X K c φ) (load7 sRM s j hs hj fun _ => store7 s j hs hj v p) Q :=
  store_core c _ _ sRM (rect7 s j hs hj) v (cut s j : Finset S7x128x1024.Idx) (sRf X c) ((View.set_slice_whole _ _).trans (set7 s j hs hj)).subset
    (fun g x hx => write_on (b := cc0_scratch1) (rect7 s j hs hj) g (sRf X c) v
      (fun y => (congrFun hv y).trans (slab7 (fun s => WR X s c) s j hs hj y)) x (by rw [set7]; exact hx)) (seed_acc X K c φ (iR s j hs hj) h) p Q H

/-- The own chunk's slice, stored: half of it goes to the left, half to the right. -/
theorem own_acc (j : ℕ) (hj : j < 8) (h : φ (jL 0 j (Nat.succ_pos 7) hj) = .todo) (h' : φ (jR 0 j (Nat.succ_pos 6) hj) = .todo) :
    Inv X K c φ ⊢ iprop((∃ f, held c cc0_stg1_0 (cut (ch c.val).val j : Finset S16x128x1024.Idx) fullShare f)
      ∗ (held c cc0_stg1_0 (cut (ch c.val).val j : Finset S16x128x1024.Idx) fullShare (outF X) -∗
          Inv X K c (Function.update (Function.update φ (jL 0 j (Nat.succ_pos 7) hj) .ready) (jR 0 j (Nat.succ_pos 6) hj) .ready))) := by
  have hne : jR 0 j (Nat.succ_pos 6) hj ≠ jL 0 j (Nat.succ_pos 7) hj := fun e => by cases e
  have e1 : ch (c.val + 16) = ch c.val := Fin.ext (by show (c.val + 16) % 16 = c.val % 16; omega)
  have e0 : seed (F := F) (jL 0 j (Nat.succ_pos 7) hj) c
      = iprop(∃ f, held c cc0_stg1_0 (cut (ch c.val).val j : Finset S16x128x1024.Idx) fullShare f)  := by
    dsimp only [seed]; exact if_pos rfl
  have e2 : srcP X (jL 0 j (Nat.succ_pos 7) hj) c = held c cc0_stg1_0 (cut (ch c.val).val j : Finset S16x128x1024.Idx) fullShare.left (outF X) := rfl
  have e3 : srcP X (jR 0 j (Nat.succ_pos 6) hj) c = held c cc0_stg1_0 (cut (ch c.val).val j : Finset S16x128x1024.Idx) fullShare.right (outF X) := by
    show held c cc0_stg1_0 (cut (ch (c.val + 16)).val j : Finset S16x128x1024.Idx) fullShare.right (outF X) = _
    rw [e1]
  iintro HI
  ihave H1 := (seed_acc X K c φ (jL 0 j (Nat.succ_pos 7) hj) h) $$ HI
  icases H1 with ⟨Hs, Hw⟩
  isplitl [Hs]
  · rw [← e0]; iexact Hs
  iintro Ho
  ihave Ho := (pointsTo_share (PosShare.mem_left_op_right fullShare)).1 $$ Ho
  icases Ho with ⟨Hl, Hr⟩
  ihave Hl := (Entails.of_eq e2.symm) $$ Hl
  ihave Hr := (Entails.of_eq e3.symm) $$ Hr
  ihave HI := Hw $$ Hl
  ihave H2 := (seed_acc X K c (Function.update φ (jL 0 j (Nat.succ_pos 7) hj) .ready) (jR 0 j (Nat.succ_pos 6) hj)
    ((Function.update_of_ne hne _ _).trans h')) $$ HI
  icases H2 with ⟨-, Hw⟩
  iapply Hw
  iexact Hr

theorem putO (j : ℕ) (hj : j < 8) (h : φ (jL 0 j (Nat.succ_pos 7) hj) = .todo) (h' : φ (jR 0 j (Nat.succ_pos 6) hj) = .todo)
    (v : FVec F S1x16x1024 .bf16) (hv : v = slab (own X (ch c.val)) j hj)
    (p : Pr F) (Q : PUnit → sProp 𝕄) (H : Runs c (Inv X K c (Function.update (Function.update φ (jL 0 j (Nat.succ_pos 7) hj) .ready) (jR 0 j (Nat.succ_pos 6) hj) .ready)) p Q) :
    Runs c (Inv X K c φ) (loadO c j hj fun _ => storeO c j hj v p) Q :=
  store_core c _ _ oM (rectO c j hj) v (cut (ch c.val).val j : Finset S16x128x1024.Idx) (outF X) ((View.set_slice_whole _ _).trans (rectO_set c j hj)).subset
    (fun g x hx => write_on (b := cc0_stg1_0) (rectO c j hj) g (outF X) v
      (fun y => (congrFun hv y).trans (slabO X c j hj y)) x (by rw [rectO_set]; exact hx)) (own_acc X K c φ j hj h h') p Q H

end Waits

end Cert.KernelIdeal.Ring

end
-- ==== Proof.Chain.lean ====
/-
# The blocks in sequence

The blocks of the reduce-scatter and of the all-gather, each from the counts before it to the counts after it, and the
whole sequence from nothing started to everything waited for.
-/
module

public import proofs.«01_k».proof.Proof.Blocks

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1x2048x1024.Idx → V F) (K : Dev nD × Ck → ℕ)

/-- Whatever was not started is waited for later than stage `n`. -/
theorem stage_lt {a b g r : ℕ} {W : Fin 4 → ℕ} (n : ℕ) (ha : 8 * (n + 1) ≤ a ∨ 64 ≤ a) (hb : 8 * (n + 1) ≤ b ∨ 56 ≤ b)
    (hg : 8 * (n + 1) ≤ g + 64 ∨ 64 ≤ g) (hr : 8 * (n + 1) ≤ r + 64 ∨ 56 ≤ r) :
    ∀ k, (ph ![a, b, g, r] W k).unsent = true → n < k.stage := by
  intro k hk
  have h := of_unsent hk
  rcases k with ⟨s, j⟩ | ⟨s, j⟩ | ⟨s, j⟩ | ⟨s, j⟩
  · have h : a ≤ 8 * s.val + j.val := h
    show n < s.val; omega
  · have h : b ≤ 8 * s.val + j.val := h
    show n < s.val; omega
  · have h : g ≤ 8 * s.val + j.val := h
    show n < 8 + s.val; omega
  · have h : r ≤ 8 * s.val + j.val := h
    show n < 8 + s.val; omega

section Steps
variable (c : Dev nD)

/-! ## One slice of one family -/

theorem sendStepL (S W : Fin 4 → ℕ) (s j : ℕ) (hs : s < 8) (hj : j < 8) (hS : S 0 = 8 * s + j) (hW : W 0 ≤ 8 * s + j)
    (v : FVec F S1x16x1024 .bf16) (hv : v = slab (WL X s c) j hj) (p : Pr F) (Q : PUnit → sProp 𝕄)
    (H : Runs c (Inv X K c (ph (Function.update S 0 (8 * s + j + 1)) W)) p Q) :
    Runs c (Inv X K c (ph S W)) (load8 sLM s j hs hj fun _ => store8 s j hs hj v <| enqL c s j hs hj p) Q := by
  refine putL X K c _ s j hs hj (ph_todo S W _ hS.le hW) v hv _ Q ?_
  refine sendL X K c _ s j hs hj (Function.update_self _ _ _) p Q ?_
  rw [Function.update_idem, ph_send S W (iL s j hs hj) hS hW]; exact H

theorem sendStepR (S W : Fin 4 → ℕ) (s j : ℕ) (hs : s < 7) (hj : j < 8) (hS : S 1 = 8 * s + j) (hW : W 1 ≤ 8 * s + j)
    (v : FVec F S1x16x1024 .bf16) (hv : v = slab (WR X s c) j hj) (p : Pr F) (Q : PUnit → sProp 𝕄)
    (H : Runs c (Inv X K c (ph (Function.update S 1 (8 * s + j + 1)) W)) p Q) :
    Runs c (Inv X K c (ph S W)) (load7 sRM s j hs hj fun _ => store7 s j hs hj v <| enqR c s j hs hj p) Q := by
  refine putR X K c _ s j hs hj (ph_todo S W _ hS.le hW) v hv _ Q ?_
  refine sendR X K c _ s j hs hj (Function.update_self _ _ _) p Q ?_
  rw [Function.update_idem, ph_send S W (iR s j hs hj) hS hW]; exact H

theorem waitStepL (S W : Fin 4 → ℕ) (s j : ℕ) (hs : s < 8) (hj : j < 8) (hS : 8 * s + j < S 0) (hW : W 0 = 8 * s + j)
    (hst : ∀ k, (ph S W k).unsent = true → s < k.stage) (p : Pr F) (Q : PUnit → sProp 𝕄)
    (H : Runs c (Inv X K c (ph S (Function.update W 0 (8 * s + j + 1)))) p Q) :
    Runs c (Inv X K c (ph S W)) (waitL s j hs hj p) Q := by
  refine awaitL X K c _ s j hs hj (ph_flying S W _ hS hW.le) hst p Q ?_
  have hw : Function.update (ph S W) (iL s j hs hj) .landed = _ := ph_wait S W (iL s j hs hj) hW
  rw [hw]; exact H

theorem waitStepR (S W : Fin 4 → ℕ) (s j : ℕ) (hs : s < 7) (hj : j < 8) (hS : 8 * s + j < S 1) (hW : W 1 = 8 * s + j)
    (hst : ∀ k, (ph S W k).unsent = true → s < k.stage) (p : Pr F) (Q : PUnit → sProp 𝕄)
    (H : Runs c (Inv X K c (ph S (Function.update W 1 (8 * s + j + 1)))) p Q) :
    Runs c (Inv X K c (ph S W)) (waitR s j hs hj p) Q := by
  refine awaitR X K c _ s j hs hj (ph_flying S W _ hS hW.le) hst p Q ?_
  have hw : Function.update (ph S W) (iR s j hs hj) .landed = _ := ph_wait S W (iR s j hs hj) hW
  rw [hw]; exact H

theorem pass_left (t j : ℕ) (ht : t < 7) (hj : j < 8) :
    dstP X (jL t j (by omega) hj) c = srcP X (jL (t + 1) j (by omega) hj) c := by
  show held c cc0_stg1_0 (cut (ch (c.val + 1 + t)).val j : Finset S16x128x1024.Idx) fullShare (outF X)
    = held c cc0_stg1_0 (cut (ch (c.val + (t + 1))).val j : Finset S16x128x1024.Idx) (shL (t + 1)) (outF X)
  rw [show shL (t + 1) = fullShare from if_neg (Nat.succ_ne_zero t), show c.val + 1 + t = c.val + (t + 1) by omega]
theorem pass_right (t j : ℕ) (ht : t < 6) (hj : j < 8) :
    dstP X (jR t j (by omega) hj) c = srcP X (jR (t + 1) j (by omega) hj) c := by
  show held c cc0_stg1_0 (cut (ch (c.val + 15 - t)).val j : Finset S16x128x1024.Idx) fullShare (outF X)
    = held c cc0_stg1_0 (cut (ch (c.val + 16 - (t + 1))).val j : Finset S16x128x1024.Idx) (shR (t + 1)) (outF X)
  rw [show shR (t + 1) = fullShare from if_neg (Nat.succ_ne_zero t), show c.val + 15 - t = c.val + 16 - (t + 1) by omega]

theorem passStepL (S W : Fin 4 → ℕ) (t j : ℕ) (ht : t < 7) (hj : j < 8) (hS : S 2 = 8 * (t + 1) + j) (hW : W 2 = 8 * t + j)
    (hst : ∀ k, (ph S W k).unsent = true → 8 + t < k.stage) (p : Pr F) (Q : PUnit → sProp 𝕄)
    (H : Runs c (Inv X K c (ph (Function.update S 2 (8 * (t + 1) + j + 1)) (Function.update W 2 (8 * t + j + 1)))) p Q) :
    Runs c (Inv X K c (ph S W)) (blkDL c t j ht hj p) Q := by
  have hne : jL (t + 1) j (by omega) hj ≠ jL t j (by omega) hj := fun e => by
    have := congrArg Cp.ix e
    simp only [Cp.ix] at this
    omega
  have hf : (jL t j (by omega) hj).fin = .spent := if_neg (by show t ≠ 7; omega)
  have hW2 : Function.update W 2 (8 * t + j + 1) 2 = 8 * t + j + 1 := Function.update_self _ _ _
  unfold blkDL
  refine awaitGL X K c _ t j (by omega) hj (ph_flying S W _ (by show 8 * t + j < S 2; omega) hW.le) hst _ Q ?_
  refine (pass_on X K c _ (jL t j (by omega) hj) (jL (t + 1) j (by omega) hj) (Function.update_self _ _ _)
    ((Function.update_of_ne hne _ _).trans (ph_todo S W _ hS.le (by show W 2 ≤ 8 * (t + 1) + j; omega)))
    (pass_left X c t j ht hj)).trans ?_
  refine sendGL X K c _ (t + 1) j (by omega) hj (Function.update_self _ _ _) p Q ?_
  have hw := ph_wait S W (jL t j (by omega) hj) hW
  rw [hf] at hw
  rw [Function.update_idem, Function.update_idem, hw, ph_send S _ (jL (t + 1) j (by omega) hj) hS
    (by show Function.update W 2 (8 * t + j + 1) 2 ≤ 8 * (t + 1) + j; omega)]
  exact H

theorem passStepR (S W : Fin 4 → ℕ) (t j : ℕ) (ht : t < 6) (hj : j < 8) (hS : S 3 = 8 * (t + 1) + j) (hW : W 3 = 8 * t + j)
    (hst : ∀ k, (ph S W k).unsent = true → 8 + t < k.stage) (p : Pr F) (Q : PUnit → sProp 𝕄)
    (H : Runs c (Inv X K c (ph (Function.update S 3 (8 * (t + 1) + j + 1)) (Function.update W 3 (8 * t + j + 1)))) p Q) :
    Runs c (Inv X K c (ph S W)) (blkDR c t j ht hj p) Q := by
  have hne : jR (t + 1) j (by omega) hj ≠ jR t j (by omega) hj := fun e => by
    have := congrArg Cp.ix e
    simp only [Cp.ix] at this
    omega
  have hf : (jR t j (by omega) hj).fin = .spent := if_neg (by show t ≠ 6; omega)
  have hW2 : Function.update W 3 (8 * t + j + 1) 3 = 8 * t + j + 1 := Function.update_self _ _ _
  unfold blkDR
  refine awaitGR X K c _ t j (by omega) hj (ph_flying S W _ (by show 8 * t + j < S 3; omega) hW.le) hst _ Q ?_
  refine (pass_on X K c _ (jR t j (by omega) hj) (jR (t + 1) j (by omega) hj) (Function.update_self _ _ _)
    ((Function.update_of_ne hne _ _).trans (ph_todo S W _ hS.le (by show W 3 ≤ 8 * (t + 1) + j; omega)))
    (pass_right X c t j ht hj)).trans ?_
  refine sendGR X K c _ (t + 1) j (by omega) hj (Function.update_self _ _ _) p Q ?_
  have hw := ph_wait S W (jR t j (by omega) hj) hW
  rw [hf] at hw
  rw [Function.update_idem, Function.update_idem, hw, ph_send S _ (jR (t + 1) j (by omega) hj) hS
    (by show Function.update W 3 (8 * t + j + 1) 3 ≤ 8 * (t + 1) + j; omega)]
  exact H

/-! ## The blocks -/

/-- What device `c` holds at the counts. -/
abbrev At (S W : Fin 4 → ℕ) : sProp 𝕄 := Inv X K c (ph S W)

theorem blkA_runs (j : ℕ) (hj : j < 8) (p : Pr F) (Q : PUnit → sProp 𝕄)
    (H : Runs c (At X K c ![j + 1, j + 1, 0, 0] ![0, 0, 0, 0]) p Q) :
    Runs c (At X K c ![j, j, 0, 0] ![0, 0, 0, 0]) (blkA c j hj p) Q := by
  unfold blkA
  refine readX1 X K c _ 0 j _ hj _ Q ?_
  refine sendStepL X K c _ _ 0 j _ hj (by show j = _; omega) (Nat.zero_le _) _ (row_mat _) _ Q ?_
  rw [upd0]
  refine readX2 X K c _ 0 j _ hj _ Q ?_
  refine sendStepR X K c _ _ 0 j _ hj (by show j = _; omega) (Nat.zero_le _) _ (row_mat _) _ Q ?_
  rw [upd1, show 8 * 0 + j + 1 = j + 1 by omega]; exact H

theorem blkBL_runs (s j : ℕ) (hs : s < 7) (hj : j < 8) (b w : ℕ) (hb : 8 * (s + 1) ≤ b ∨ 56 ≤ b) (p : Pr F) (Q : PUnit → sProp 𝕄)
    (H : Runs c (At X K c ![8 * (s + 1) + j + 1, b, 0, 0] ![8 * s + j + 1, w, 0, 0]) p Q) :
    Runs c (At X K c ![8 * (s + 1) + j, b, 0, 0] ![8 * s + j, w, 0, 0]) (blkBL c s j hs hj p) Q := by
  unfold blkBL
  refine waitStepL X K c _ _ s j _ hj (by show 8 * s + j < 8 * (s + 1) + j; omega) rfl
    (stage_lt s (by omega) (by omega) (by omega) (by omega)) _ Q ?_
  rw [upd0]
  refine readX1 X K c _ (s + 1) j _ hj _ Q ?_
  refine readL X K c _ s j _ hj (ph_fin _ _ (iL s j (by omega) hj) (Nat.lt_succ_self _)) _ Q ?_
  refine sendStepL X K c _ _ (s + 1) j _ hj rfl (by show 8 * s + j + 1 ≤ 8 * (s + 1) + j; omega) _ (row_add _ _) _ Q ?_
  rw [upd0]; exact H

theorem blkBR_runs (s j : ℕ) (hs : s < 6) (hj : j < 8) (a w : ℕ) (ha : 8 * (s + 1) ≤ a) (p : Pr F) (Q : PUnit → sProp 𝕄)
    (H : Runs c (At X K c ![a, 8 * (s + 1) + j + 1, 0, 0] ![w, 8 * s + j + 1, 0, 0]) p Q) :
    Runs c (At X K c ![a, 8 * (s + 1) + j, 0, 0] ![w, 8 * s + j, 0, 0]) (blkBR c s j hs hj p) Q := by
  unfold blkBR
  refine waitStepR X K c _ _ s j _ hj (by show 8 * s + j < 8 * (s + 1) + j; omega) rfl
    (stage_lt s (by omega) (by omega) (by omega) (by omega)) _ Q ?_
  rw [upd1]
  refine readX2 X K c _ (s + 1) j _ hj _ Q ?_
  refine readR X K c _ s j _ hj (ph_fin _ _ (iR s j (by omega) hj) (Nat.lt_succ_self _)) _ Q ?_
  refine sendStepR X K c _ _ (s + 1) j _ hj rfl (by show 8 * s + j + 1 ≤ 8 * (s + 1) + j; omega) _ (row_add _ _) _ Q ?_
  rw [upd1]; exact H

theorem blkB_runs (s j : ℕ) (hs : s < 6) (hj : j < 8) (p : Pr F) (Q : PUnit → sProp 𝕄)
    (H : Runs c (At X K c ![8 * (s + 1) + j + 1, 8 * (s + 1) + j + 1, 0, 0] ![8 * s + j + 1, 8 * s + j + 1, 0, 0]) p Q) :
    Runs c (At X K c ![8 * (s + 1) + j, 8 * (s + 1) + j, 0, 0] ![8 * s + j, 8 * s + j, 0, 0]) (blkB c s j hs hj p) Q :=
  blkBL_runs X K c s j (by omega) hj _ _ (by omega) _ Q (blkBR_runs X K c s j hs hj _ _ (by omega) p Q H)

theorem own_sum (j : ℕ) (hj : j < 8) :
    row (addf (addf (mat (slab (xat X c (ch c.val)) j hj)) (mat (slab (WL X 7 (rgt c)) j hj))) (mat (slab (WR X 6 (lft c)) j hj)))
      = slab (own X (ch c.val)) j hj := by
  have hd : devOf (ch c.val) = c := Fin.ext (Nat.mod_eq_of_lt (dev_lt c))
  rw [row_add3]
  funext y
  show _ = own X (ch c.val) _ _
  unfold own
  rw [hd]; rfl

theorem blkC_runs (j : ℕ) (hj : j < 8) (p : Pr F) (Q : PUnit → sProp 𝕄)
    (H : Runs c (At X K c ![64, 56, j + 1, j + 1] ![56 + j + 1, 48 + j + 1, 0, 0]) p Q) :
    Runs c (At X K c ![64, 56, j, j] ![56 + j, 48 + j, 0, 0]) (blkC c j hj p) Q := by
  unfold blkC
  refine waitStepL X K c _ _ 7 j _ hj (by show 8 * 7 + j < 64; omega) rfl
    (stage_lt 7 (by omega) (by omega) (by omega) (by omega)) _ Q ?_
  rw [upd0]
  refine waitStepR X K c _ _ 6 j _ hj (by show 8 * 6 + j < 56; omega) rfl
    (stage_lt 6 (by omega) (by omega) (by omega) (by omega)) _ Q ?_
  rw [upd1]
  refine readX3 X K c _ j hj _ Q ?_
  refine readL X K c _ 7 j _ hj (ph_fin _ _ (iL 7 j (by omega) hj) (Nat.lt_succ_self _)) _ Q ?_
  refine readR X K c _ 6 j _ hj (ph_fin _ _ (iR 6 j (by omega) hj) (Nat.lt_succ_self _)) _ Q ?_
  refine putO X K c _ j hj (ph_todo _ _ (jL 0 j (by omega) hj) (by show j ≤ 8 * 0 + j; omega) (Nat.zero_le _))
    (ph_todo _ _ (jR 0 j (by omega) hj) (by show j ≤ 8 * 0 + j; omega) (Nat.zero_le _)) _ (own_sum X c j hj) _ Q ?_
  have hne : jL 0 j (by omega) hj ≠ jR 0 j (by omega) hj := fun e => by cases e
  have hne' : jR 0 j (by omega) hj ≠ jL 0 j (by omega) hj := fun e => by cases e
  refine sendGL X K c _ 0 j _ hj ((Function.update_of_ne hne _ _).trans (Function.update_self _ _ _)) _ Q ?_
  rw [Function.update_comm hne', Function.update_idem, ph_send _ _ (jL 0 j (by omega) hj) (by show j = 8 * 0 + j; omega) (Nat.zero_le _)]
  refine sendGR X K c _ 0 j _ hj (Function.update_self _ _ _) _ Q ?_
  rw [Function.update_idem, ph_send _ _ (jR 0 j (by omega) hj) (by show j = 8 * 0 + j; omega) (Nat.zero_le _)]
  show Runs c (At X K c (Function.update (Function.update ![64, 56, j, j] 2 (8 * 0 + j + 1)) 3 (8 * 0 + j + 1)) _) p Q
  rw [upd2, upd3, show 8 * 0 + j + 1 = j + 1 by omega]
  exact H

theorem blkDL_runs (t j : ℕ) (ht : t < 7) (hj : j < 8) (b w : ℕ) (hb : 8 * (t + 1) ≤ b ∨ 56 ≤ b) (p : Pr F) (Q : PUnit → sProp 𝕄)
    (H : Runs c (At X K c ![64, 56, 8 * (t + 1) + j + 1, b] ![64, 56, 8 * t + j + 1, w]) p Q) :
    Runs c (At X K c ![64, 56, 8 * (t + 1) + j, b] ![64, 56, 8 * t + j, w]) (blkDL c t j ht hj p) Q := by
  refine passStepL X K c _ _ t j ht hj rfl rfl (stage_lt (8 + t) (by omega) (by omega) (by omega) (by omega)) p Q ?_
  rw [upd2, upd2]; exact H
theorem blkDR_runs (t j : ℕ) (ht : t < 6) (hj : j < 8) (a w : ℕ) (ha : 8 * (t + 1) ≤ a) (p : Pr F) (Q : PUnit → sProp 𝕄)
    (H : Runs c (At X K c ![64, 56, a, 8 * (t + 1) + j + 1] ![64, 56, w, 8 * t + j + 1]) p Q) :
    Runs c (At X K c ![64, 56, a, 8 * (t + 1) + j] ![64, 56, w, 8 * t + j]) (blkDR c t j ht hj p) Q := by
  refine passStepR X K c _ _ t j ht hj rfl rfl (stage_lt (8 + t) (by omega) (by omega) (by omega) (by omega)) p Q ?_
  rw [upd3, upd3]; exact H
theorem blkD_runs (t j : ℕ) (ht : t < 6) (hj : j < 8) (p : Pr F) (Q : PUnit → sProp 𝕄)
    (H : Runs c (At X K c ![64, 56, 8 * (t + 1) + j + 1, 8 * (t + 1) + j + 1] ![64, 56, 8 * t + j + 1, 8 * t + j + 1]) p Q) :
    Runs c (At X K c ![64, 56, 8 * (t + 1) + j, 8 * (t + 1) + j] ![64, 56, 8 * t + j, 8 * t + j]) (blkD c t j ht hj p) Q :=
  blkDL_runs X K c t j (by omega) hj _ _ (by omega) _ Q (blkDR_runs X K c t j ht hj _ _ (by omega) p Q H)

theorem blkE_runs (j : ℕ) (hj : j < 8) (p : Pr F) (Q : PUnit → sProp 𝕄)
    (H : Runs c (At X K c ![64, 56, 64, 56] ![64, 56, 56 + j + 1, 48 + j + 1]) p Q) :
    Runs c (At X K c ![64, 56, 64, 56] ![64, 56, 56 + j, 48 + j]) (blkE c j hj p) Q := by
  unfold blkE
  refine awaitGL X K c _ 7 j _ hj (ph_flying _ _ (jL 7 j (by omega) hj) (by show 8 * 7 + j < 64; omega) (le_refl _))
    (stage_lt 15 (by omega) (by omega) (by omega) (by omega)) _ Q ?_
  have hl : Function.update (ph ![64, 56, 64, 56] ![64, 56, 56 + j, 48 + j]) (jL 7 j (by omega) hj) .landed = _ :=
    (ph_wait ![64, 56, 64, 56] ![64, 56, 56 + j, 48 + j] (jL 7 j (by omega) hj) rfl).trans (congrArg (ph _) (upd2 _ _ _ _ _))
  rw [hl]
  refine awaitGR X K c _ 6 j _ hj (ph_flying _ _ (jR 6 j (by omega) hj) (by show 8 * 6 + j < 56; omega) (le_refl _))
    (stage_lt 14 (by omega) (by omega) (by omega) (by omega)) _ Q ?_
  have hr : Function.update (ph ![64, 56, 64, 56] ![64, 56, 56 + j + 1, 48 + j]) (jR 6 j (by omega) hj) .landed = _ :=
    (ph_wait ![64, 56, 64, 56] ![64, 56, 56 + j + 1, 48 + j] (jR 6 j (by omega) hj) rfl).trans (congrArg (ph _) (upd3 _ _ _ _ _))
  exact (congrArg (fun f => Runs c (Inv X K c f) p Q) hr).mpr H

/-! ## The sequence -/

theorem rows_runs (I : ℕ → sProp 𝕄) (b : (j : ℕ) → j < 8 → Pr F → Pr F) (Q : PUnit → sProp 𝕄)
    (hb : ∀ (j : ℕ) (hj : j < 8) (p : Pr F), Runs c (I (j + 1)) p Q → Runs c (I j) (b j hj p) Q) (p : Pr F)
    (H : Runs c (I 8) p Q) : Runs c (I 0) (rows b p) Q :=
  hb 0 _ _ <| hb 1 _ _ <| hb 2 _ _ <| hb 3 _ _ <| hb 4 _ _ <| hb 5 _ _ <| hb 6 _ _ <| hb 7 _ _ H

theorem steps_runs (I : ℕ → ℕ → sProp 𝕄) (hI : ∀ s, I s 8 = I (s + 1) 0) (b : (s : ℕ) → s < 6 → (j : ℕ) → j < 8 → Pr F → Pr F)
    (Q : PUnit → sProp 𝕄)
    (hb : ∀ (s : ℕ) (hs : s < 6) (j : ℕ) (hj : j < 8) (p : Pr F), Runs c (I s (j + 1)) p Q → Runs c (I s j) (b s hs j hj p) Q)
    (p : Pr F) (H : Runs c (I 6 0) p Q) : Runs c (I 0 0) (steps b p) Q := by
  have hr : ∀ (s : ℕ) (hs : s < 6) (p : Pr F), Runs c (I (s + 1) 0) p Q → Runs c (I s 0) (rows (b s hs) p) Q :=
    fun s hs p h => rows_runs c (I s) (b s hs) Q (hb s hs) p (by rw [hI]; exact h)
  exact hr 0 _ _ <| hr 1 _ _ <| hr 2 _ _ <| hr 3 _ _ <| hr 4 _ _ <| hr 5 _ _ H

/-- The reduce-scatter. -/
theorem scatter_runs (p : Pr F) (Q : PUnit → sProp 𝕄)
    (H : Runs c (At X K c ![64, 56, 0, 0] ![56, 48, 0, 0]) p Q) :
    Runs c (At X K c ![0, 0, 0, 0] ![0, 0, 0, 0]) (scatter c p) Q := by
  unfold scatter
  refine rows_runs c (fun j => At X K c ![j, j, 0, 0] ![0, 0, 0, 0]) _ Q (fun j hj p => blkA_runs X K c j hj p Q) _ ?_
  refine steps_runs c (fun s j => At X K c ![8 * (s + 1) + j, 8 * (s + 1) + j, 0, 0] ![8 * s + j, 8 * s + j, 0, 0])
    (fun s => ?_) _ Q (fun s hs j hj p h => ?_) _ ?_
  · simp only [show 8 * (s + 1) + 8 = 8 * (s + 1 + 1) + 0 by omega, show 8 * s + 8 = 8 * (s + 1) + 0 by omega]
  · exact blkB_runs X K c s j hs hj p Q h
  show Runs c (At X K c ![56, 56, 0, 0] ![48, 48, 0, 0]) _ Q
  refine rows_runs c (fun j => At X K c ![56 + j, 56, 0, 0] ![48 + j, 48, 0, 0]) _ Q (fun j hj p => ?_) _ ?_
  · exact blkBL_runs X K c 6 j _ hj 56 48 (by omega) p Q
  · exact H

/-- The all-gather. -/
theorem gather_runs (p : Pr F) (Q : PUnit → sProp 𝕄)
    (H : Runs c (At X K c ![64, 56, 64, 56] ![64, 56, 64, 56]) p Q) :
    Runs c (At X K c ![64, 56, 0, 0] ![56, 48, 0, 0]) (gather c p) Q := by
  unfold gather
  refine rows_runs c (fun j => At X K c ![64, 56, j, j] ![56 + j, 48 + j, 0, 0]) _ Q (fun j hj p => blkC_runs X K c j hj p Q) _ ?_
  refine steps_runs c (fun t j => At X K c ![64, 56, 8 * (t + 1) + j, 8 * (t + 1) + j] ![64, 56, 8 * t + j, 8 * t + j])
    (fun s => ?_) _ Q (fun t ht j hj p h => ?_) _ ?_
  · simp only [show 8 * (s + 1) + 8 = 8 * (s + 1 + 1) + 0 by omega, show 8 * s + 8 = 8 * (s + 1) + 0 by omega]
  · exact blkD_runs X K c t j ht hj p Q h
  show Runs c (At X K c ![64, 56, 56, 56] ![64, 56, 48, 48]) _ Q
  refine rows_runs c (fun j => At X K c ![64, 56, 56 + j, 56] ![64, 56, 48 + j, 48]) _ Q (fun j hj p => ?_) _ ?_
  · exact blkDL_runs X K c 6 j _ hj 56 48 (by omega) p Q
  show Runs c (At X K c ![64, 56, 64, 56] ![64, 56, 56, 48]) _ Q
  exact rows_runs c (fun j => At X K c ![64, 56, 64, 56] ![64, 56, 56 + j, 48 + j]) _ Q (fun j hj p => blkE_runs X K c j hj p Q) _ H

end Steps

end Cert.KernelIdeal.Ring

end
-- ==== Proof.Pieces.lean ====
/-
# The buffers in slices

Before its first copy a device takes its buffers apart into the slices the copies read and write; after the last
one it puts them together again, the result buffer at the whole result.
-/
module

public import proofs.«01_k».proof.Proof.Chain
public import Idealize.ShloMosaic.Lib.Ring

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → S1x2048x1024.Idx → V F) (c : Dev nD)

/-! ## Conjunctions over the copies -/

/-- Over all copies: over each family in turn. -/
theorem bigSep_cp (Φ : Cp → sProp 𝕄) : bigSep Finset.univ Φ
    = iprop(((bigSep Finset.univ fun s : Fin 8 => bigSep Finset.univ fun j : Fin 8 => Φ (.sL s j))
        ∗ (bigSep Finset.univ fun s : Fin 7 => bigSep Finset.univ fun j : Fin 8 => Φ (.sR s j)))
      ∗ ((bigSep Finset.univ fun s : Fin 8 => bigSep Finset.univ fun j : Fin 8 => Φ (.gL s j))
        ∗ (bigSep Finset.univ fun s : Fin 7 => bigSep Finset.univ fun j : Fin 8 => Φ (.gR s j)))) := by
  rw [bigSep_univ_equiv cpEquiv, bigSep_univ_sum, bigSep_univ_sum, bigSep_univ_sum, bigSep_univ_prod, bigSep_univ_prod,
    bigSep_univ_prod, bigSep_univ_prod]
  rfl

/-- The first one apart. -/
theorem bigSep_head {n : ℕ} (Φ : Fin (n + 1) → sProp 𝕄) :
    bigSep Finset.univ Φ = iprop(Φ 0 ∗ bigSep Finset.univ fun t : Fin n => Φ t.succ) := by
  rw [Fin.univ_succ, Finset.cons_eq_insert, bigSep_insert (by simp [Fin.succ_ne_zero]), bigSep_map]; rfl
/-- The last one apart. -/
theorem bigSep_tail {n : ℕ} (Φ : Fin (n + 1) → sProp 𝕄) :
    bigSep Finset.univ Φ = iprop(Φ (Fin.last n) ∗ bigSep Finset.univ fun t : Fin n => Φ t.castSucc) := by
  rw [Fin.univ_castSuccEmb, Finset.cons_eq_insert, bigSep_insert (by simp [Fin.castSucc_ne_last]), bigSep_map]; rfl

/-! ## The slices of a buffer -/

/-- The slices of a buffer of `k` parts. -/
abbrev cuts (k : ℕ) (p : Fin k × Fin 8) : Finset (⟨3, ![k, 128, 1024]⟩ : Shape).Idx := cut p.1.val p.2.val

theorem cuts_disjoint (k : ℕ) (p p' : Fin k × Fin 8) (h : p ≠ p') : Disjoint (cuts k p) (cuts k p') := by
  rw [Finset.disjoint_left]
  intro x h1 h2
  rw [mem_cut] at h1 h2
  exact h (Prod.ext (Fin.ext (h1.1.symm.trans h2.1)) (Fin.ext (h1.2.symm.trans h2.2)))

theorem cuts_cover (k : ℕ) : Finset.univ.biUnion (cuts k) = Finset.univ := by
  ext x
  simp only [Finset.mem_biUnion, Finset.mem_univ, true_and, iff_true]
  have h1 : (x 1).val < 128 := (x 1).isLt
  exact ⟨(x 0, ⟨(x 1).val / 16, by omega⟩), mem_cut.mpr ⟨rfl, rfl⟩⟩

/-- A buffer held whole, slice by slice. -/
theorem scr0_cuts (f : (cc0_scratch0 : Ref sig .tc).ty.Contents (Elt F)) : held c cc0_scratch0 (Finset.univ : Finset S8x128x1024.Idx) fullShare f
    = bigSep Finset.univ fun s : Fin 8 => bigSep Finset.univ fun j : Fin 8 =>
        held c cc0_scratch0 (cut s.val j.val : Finset S8x128x1024.Idx) fullShare f :=
  (Ring.pointsTo_blocks (ℓ := (c : Thread nD τ).loc cc0_scratch0) (cuts 8) (cuts_disjoint 8) (cuts_cover 8) f).trans (bigSep_univ_prod _)
theorem scr1_cuts (f : (cc0_scratch1 : Ref sig .tc).ty.Contents (Elt F)) : held c cc0_scratch1 (Finset.univ : Finset S7x128x1024.Idx) fullShare f
    = bigSep Finset.univ fun s : Fin 7 => bigSep Finset.univ fun j : Fin 8 =>
        held c cc0_scratch1 (cut s.val j.val : Finset S7x128x1024.Idx) fullShare f :=
  (Ring.pointsTo_blocks (ℓ := (c : Thread nD τ).loc cc0_scratch1) (cuts 7) (cuts_disjoint 7) (cuts_cover 7) f).trans (bigSep_univ_prod _)
theorem scr2_cuts (f : (cc0_scratch2 : Ref sig .tc).ty.Contents (Elt F)) : held c cc0_scratch2 (Finset.univ : Finset S8x128x1024.Idx) fullShare f
    = bigSep Finset.univ fun s : Fin 8 => bigSep Finset.univ fun j : Fin 8 =>
        held c cc0_scratch2 (cut s.val j.val : Finset S8x128x1024.Idx) fullShare f :=
  (Ring.pointsTo_blocks (ℓ := (c : Thread nD τ).loc cc0_scratch2) (cuts 8) (cuts_disjoint 8) (cuts_cover 8) f).trans (bigSep_univ_prod _)
theorem scr3_cuts (f : (cc0_scratch3 : Ref sig .tc).ty.Contents (Elt F)) : held c cc0_scratch3 (Finset.univ : Finset S7x128x1024.Idx) fullShare f
    = bigSep Finset.univ fun s : Fin 7 => bigSep Finset.univ fun j : Fin 8 =>
        held c cc0_scratch3 (cut s.val j.val : Finset S7x128x1024.Idx) fullShare f :=
  (Ring.pointsTo_blocks (ℓ := (c : Thread nD τ).loc cc0_scratch3) (cuts 7) (cuts_disjoint 7) (cuts_cover 7) f).trans (bigSep_univ_prod _)
theorem out_cuts (f : (cc0_stg1_0 : Ref sig .tc).ty.Contents (Elt F)) : held c cc0_stg1_0 (Finset.univ : Finset S16x128x1024.Idx) fullShare f
    = bigSep Finset.univ fun r : Fin 16 => bigSep Finset.univ fun j : Fin 8 =>
        held c cc0_stg1_0 (cut r.val j.val : Finset S16x128x1024.Idx) fullShare f :=
  (Ring.pointsTo_blocks (ℓ := (c : Thread nD τ).loc cc0_stg1_0) (cuts 16) (cuts_disjoint 16) (cuts_cover 16) f).trans (bigSep_univ_prod _)

/-! ## The chunks of the result, in the order of the all-gather -/

/-- The chunks that come from the right, those that come from the left, and the device's own. -/
def place : (Fin 8 ⊕ Fin 7) ⊕ Unit → Fin 16
  | .inl (.inl t) => ch (c.val + 1 + t.val)
  | .inl (.inr t) => ch (c.val + 15 - t.val)
  | .inr () => ch c.val

theorem place_bijective : Function.Bijective (place c) := by
  have hc := dev_lt c
  rw [Fintype.bijective_iff_injective_and_card]
  refine ⟨?_, rfl⟩
  rintro ((t | t) | ⟨⟩) ((t' | t') | ⟨⟩) h <;> have h' := congrArg Fin.val h <;> simp only [place, ch] at h' <;>
    first
      | rfl
      | (exfalso; omega)
      | (have : t = t' := Fin.ext (by omega)
         rw [this])

/-- The result buffer, slice by slice, its chunks in that order. -/
theorem out_placed (f : (cc0_stg1_0 : Ref sig .tc).ty.Contents (Elt F)) : held c cc0_stg1_0 (Finset.univ : Finset S16x128x1024.Idx) fullShare f
    = iprop(((bigSep Finset.univ fun t : Fin 8 => bigSep Finset.univ fun j : Fin 8 =>
          held c cc0_stg1_0 (cut (ch (c.val + 1 + t.val)).val j.val : Finset S16x128x1024.Idx) fullShare f)
        ∗ (bigSep Finset.univ fun t : Fin 7 => bigSep Finset.univ fun j : Fin 8 =>
          held c cc0_stg1_0 (cut (ch (c.val + 15 - t.val)).val j.val : Finset S16x128x1024.Idx) fullShare f))
      ∗ (bigSep Finset.univ fun j : Fin 8 =>
          held c cc0_stg1_0 (cut (ch c.val).val j.val : Finset S16x128x1024.Idx) fullShare f)) := by
  rw [out_cuts, bigSep_univ_equiv (Equiv.ofBijective (place c) (place_bijective c)), bigSep_univ_sum, bigSep_univ_sum,
    bigSep_univ_of_subsingleton ()]
  rfl

/-! ## Before the first copy -/

/-- Slices at given contents are slices at some contents. -/
theorem some_cuts {k n : ℕ} (b : Ref sig .tc) (I : Fin k → Fin n → Finset b.ty.Idx) (f : b.ty.Contents (Elt F)) :
    (bigSep Finset.univ fun s => bigSep Finset.univ fun j => held c b (I s j) fullShare f)
      ⊢ (bigSep Finset.univ fun s => bigSep Finset.univ fun j => iprop(∃ f, held c b (I s j) fullShare f) : sProp 𝕄) :=
  bigSep_mono fun s _ => bigSep_mono fun j _ => exists_intro (Φ := fun f => held c b (I s j) fullShare f) f

/-- The whole buffers of a device give every slice its copies read and every slice its neighbours' copies write. -/
theorem split_buffers :
    iprop((∃ f, held c cc0_scratch0 (Finset.univ : Finset S8x128x1024.Idx) fullShare f)
        ∗ (∃ f, held c cc0_scratch1 (Finset.univ : Finset S7x128x1024.Idx) fullShare f)
        ∗ (∃ f, held c cc0_scratch2 (Finset.univ : Finset S8x128x1024.Idx) fullShare f)
        ∗ (∃ f, held c cc0_scratch3 (Finset.univ : Finset S7x128x1024.Idx) fullShare f)
        ∗ (∃ f, held c cc0_stg1_0 (Finset.univ : Finset S16x128x1024.Idx) fullShare f))
      ⊢ (iprop((bigSep Finset.univ fun i : Cp => seed i c) ∗ bigSep Finset.univ fun i : Cp => room i c) : sProp 𝕄) := by
  have e0 : (bigSep Finset.univ fun t : Fin 8 => bigSep Finset.univ fun j : Fin 8 => seed (F := F) (.gL t j) c)
      = iprop((bigSep Finset.univ fun j : Fin 8 =>
          iprop(∃ f, held c cc0_stg1_0 (cut (ch c.val).val j.val : Finset S16x128x1024.Idx) fullShare f)) ∗ emp) := by
    rw [bigSep_head]
    refine congrArg₂ _ rfl ?_
    exact (bigSep_congr fun t _ => (bigSep_congr fun j _ => by dsimp only [seed]; exact if_neg (Fin.succ_ne_zero t)).trans
      (bigSep_emp_const _)).trans (bigSep_emp_const _)
  have e1 : (bigSep Finset.univ fun t : Fin 7 => bigSep Finset.univ fun j : Fin 8 => seed (F := F) (.gR t j) c) = (iprop(emp) : sProp 𝕄) :=
    (bigSep_congr fun t _ => bigSep_emp_const _).trans (bigSep_emp_const _)
  rw [bigSep_cp (fun i : Cp => seed (F := F) i c), bigSep_cp (fun i : Cp => room (F := F) i c), e0, e1]
  have hO (f : (cc0_stg1_0 : Ref sig .tc).ty.Contents (Elt F)) :
      (bigSep Finset.univ fun j : Fin 8 => held c cc0_stg1_0 (cut (ch c.val).val j.val : Finset S16x128x1024.Idx) fullShare f)
        ⊢ (bigSep Finset.univ fun j : Fin 8 =>
          iprop(∃ f, held c cc0_stg1_0 (cut (ch c.val).val j.val : Finset S16x128x1024.Idx) fullShare f) : sProp 𝕄) :=
    bigSep_mono fun j _ => exists_intro
      (Φ := fun f => held c cc0_stg1_0 (cut (ch c.val).val j.val : Finset S16x128x1024.Idx) fullShare f) f
  iintro ⟨⟨%f0, H0⟩, ⟨%f1, H1⟩, ⟨%f2, H2⟩, ⟨%f3, H3⟩, ⟨%f4, H4⟩⟩
  ihave H0 := (Entails.of_eq (scr0_cuts c f0)) $$ H0
  ihave H1 := (Entails.of_eq (scr1_cuts c f1)) $$ H1
  ihave H2 := (Entails.of_eq (scr2_cuts c f2)) $$ H2
  ihave H3 := (Entails.of_eq (scr3_cuts c f3)) $$ H3
  ihave H4 := (Entails.of_eq (out_placed c f4)) $$ H4
  icases H4 with ⟨⟨HL, HR⟩, HO⟩
  isplitl [H0 H1 HO]
  · isplitl [H0 H1]
    · isplitl [H0]
      · iapply (some_cuts c cc0_scratch0 _ f0); iexact H0
      · iapply (some_cuts c cc0_scratch1 _ f1); iexact H1
    isplitl [HO]
    · isplitl [HO]
      · iapply (hO f4); iexact HO
      iempintro
    iempintro
  isplitl [H2 H3]
  · isplitl [H2]
    · iapply (some_cuts c cc0_scratch2 _ f2); iexact H2
    · iapply (some_cuts c cc0_scratch3 _ f3); iexact H3
  isplitl [HL]
  · iapply (some_cuts c cc0_stg1_0 _ f4); iexact HL
  · iapply (some_cuts c cc0_stg1_0 _ f4); iexact HR

/-! ## After the last copy -/

/-- What a copy's last phase holds beyond its two semaphores and its source slice: the slice that landed, unless it
    was passed on. -/
def extra (i : Cp) : sProp 𝕄 := if i.fin = .landed then dstP X i c else iprop(emp)

theorem fin_out (i : Cp) : Res X c i i.fin
    ⊢ iprop((semVal (sdCell c i) 0 ∗ semVal (rvCell c i) 0) ∗ srcP X i c ∗ extra X c i) := by
  have h : i.fin = .landed ∨ i.fin = .spent := by
    rcases i with _ | _ | ⟨t, _⟩ | ⟨t, _⟩ <;> first | exact Or.inl rfl | (simp only [Cp.fin]; split <;> simp)
  rcases h with h | h
  · unfold extra; rw [h, if_pos rfl]; exact Entails.refl _
  · unfold extra; rw [h, if_neg (by decide)]
    show iprop((semVal (sdCell c i) 0 ∗ semVal (rvCell c i) 0) ∗ srcP X i c) ⊢ _
    iintro ⟨H1, H2⟩
    isplitl [H1]; · iexact H1
    isplitl [H2]; · iexact H2
    iempintro

/-- What a device sent to the left and what came last, against its own chunk's halves and what came. -/
theorem gL_all : iprop((bigSep Finset.univ fun t : Fin 8 => bigSep Finset.univ fun j : Fin 8 => srcP X (.gL t j) c)
      ∗ (bigSep Finset.univ fun t : Fin 8 => bigSep Finset.univ fun j : Fin 8 => extra X c (.gL t j)))
    ⊢ iprop((bigSep Finset.univ fun j : Fin 8 => srcP X (.gL 0 j) c)
      ∗ (bigSep Finset.univ fun t : Fin 8 => bigSep Finset.univ fun j : Fin 8 => dstP X (.gL t j) c)) := by
  rw [bigSep_head (fun t : Fin 8 => bigSep Finset.univ fun j : Fin 8 => srcP X (.gL t j) c),
    bigSep_tail (fun t : Fin 8 => bigSep Finset.univ fun j : Fin 8 => extra X c (.gL t j)),
    bigSep_tail (fun t : Fin 8 => bigSep Finset.univ fun j : Fin 8 => dstP X (.gL t j) c)]
  have e1 : (bigSep Finset.univ fun t : Fin 7 => bigSep Finset.univ fun j : Fin 8 => srcP X (.gL t.succ j) c)
      = bigSep Finset.univ fun t : Fin 7 => bigSep Finset.univ fun j : Fin 8 => dstP X (.gL t.castSucc j) c :=
    bigSep_congr fun t _ => bigSep_congr fun j _ => by
      have h0 : shL t.succ.val = fullShare := if_neg (Nat.succ_ne_zero _)
      have h1 : c.val + t.succ.val = c.val + 1 + t.castSucc.val := by rw [Fin.val_succ, Fin.val_castSucc]; omega
      dsimp only [srcP, dstP]; rw [h0, h1]
  rw [e1]
  iintro ⟨⟨H0, H1⟩, H2, -⟩
  isplitl [H0]; · iexact H0
  isplitl [H2]; · iexact H2
  iexact H1

theorem gR_all : iprop((bigSep Finset.univ fun t : Fin 7 => bigSep Finset.univ fun j : Fin 8 => srcP X (.gR t j) c)
      ∗ (bigSep Finset.univ fun t : Fin 7 => bigSep Finset.univ fun j : Fin 8 => extra X c (.gR t j)))
    ⊢ iprop((bigSep Finset.univ fun j : Fin 8 => srcP X (.gR 0 j) c)
      ∗ (bigSep Finset.univ fun t : Fin 7 => bigSep Finset.univ fun j : Fin 8 => dstP X (.gR t j) c)) := by
  rw [bigSep_head (fun t : Fin 7 => bigSep Finset.univ fun j : Fin 8 => srcP X (.gR t j) c),
    bigSep_tail (fun t : Fin 7 => bigSep Finset.univ fun j : Fin 8 => extra X c (.gR t j)),
    bigSep_tail (fun t : Fin 7 => bigSep Finset.univ fun j : Fin 8 => dstP X (.gR t j) c)]
  have e1 : (bigSep Finset.univ fun t : Fin 6 => bigSep Finset.univ fun j : Fin 8 => srcP X (.gR t.succ j) c)
      = bigSep Finset.univ fun t : Fin 6 => bigSep Finset.univ fun j : Fin 8 => dstP X (.gR t.castSucc j) c :=
    bigSep_congr fun t _ => bigSep_congr fun j _ => by
      have h0 : shR t.succ.val = fullShare := if_neg (Nat.succ_ne_zero _)
      have h1 : c.val + 16 - t.succ.val = c.val + 15 - t.castSucc.val := by rw [Fin.val_succ, Fin.val_castSucc]; omega
      dsimp only [srcP, dstP]; rw [h0, h1]
  rw [e1]
  iintro ⟨⟨H0, H1⟩, H2, -⟩
  isplitl [H0]; · iexact H0
  isplitl [H2]; · iexact H2
  iexact H1

/-- The two halves of a device's own chunk. -/
theorem own_halves : iprop((bigSep Finset.univ fun j : Fin 8 => srcP X (.gL 0 j) c) ∗ (bigSep Finset.univ fun j : Fin 8 => srcP X (.gR 0 j) c))
    ⊢ (bigSep Finset.univ fun j : Fin 8 =>
        held c cc0_stg1_0 (cut (ch c.val).val j.val : Finset S16x128x1024.Idx) fullShare (outF X) : sProp 𝕄) := by
  rw [← bigSep_sep']
  refine bigSep_mono fun j _ => ?_
  have e1 : ch (c.val + 16) = ch c.val := Fin.ext (by show (c.val + 16) % 16 = c.val % 16; omega)
  have e2 : srcP X (.gL 0 j) c = held c cc0_stg1_0 (cut (ch c.val).val j.val : Finset S16x128x1024.Idx) fullShare.left (outF X) := rfl
  have e3 : srcP X (.gR 0 j) c = held c cc0_stg1_0 (cut (ch c.val).val j.val : Finset S16x128x1024.Idx) fullShare.right (outF X) := by
    show held c cc0_stg1_0 (cut (ch (c.val + 16)).val j.val : Finset S16x128x1024.Idx) fullShare.right (outF X) = _
    rw [e1]
  rw [e2, e3]
  exact (pointsTo_share (PosShare.mem_left_op_right fullShare)).2

/-- What the copies hold at the end: their semaphores, the scratch buffers and the result. -/
theorem join_buffers : (bigSep Finset.univ fun i : Cp => Res X c i i.fin)
    ⊢ iprop((bigSep Finset.univ fun i : Cp => iprop(semVal (sdCell c i) 0 ∗ semVal (rvCell c i) 0))
        ∗ ((∃ f, held c cc0_scratch0 (Finset.univ : Finset S8x128x1024.Idx) fullShare f)
          ∗ (∃ f, held c cc0_scratch1 (Finset.univ : Finset S7x128x1024.Idx) fullShare f)
          ∗ (∃ f, held c cc0_scratch2 (Finset.univ : Finset S8x128x1024.Idx) fullShare f)
          ∗ (∃ f, held c cc0_scratch3 (Finset.univ : Finset S7x128x1024.Idx) fullShare f))
        ∗ held c cc0_stg1_0 (Finset.univ : Finset S16x128x1024.Idx) fullShare (outF X)) := by
  have hf : (bigSep Finset.univ fun i : Cp => Res X c i i.fin)
      ⊢ (iprop((bigSep Finset.univ fun i : Cp => iprop(semVal (sdCell c i) 0 ∗ semVal (rvCell c i) 0))
        ∗ (bigSep Finset.univ fun i : Cp => srcP X i c) ∗ bigSep Finset.univ fun i : Cp => extra X c i) : sProp 𝕄) := by
    rw [← bigSep_sep' Finset.univ (fun i : Cp => srcP X i c),
      ← bigSep_sep' Finset.univ (fun i : Cp => iprop(semVal (sdCell c i) 0 ∗ semVal (rvCell c i) 0))]
    exact bigSep_mono fun i _ => fin_out X c i
  rw [bigSep_cp (fun i : Cp => srcP X i c), bigSep_cp (fun i : Cp => extra X c i)] at hf
  iintro H
  ihave H := hf $$ H
  icases H with ⟨HS, ⟨⟨H0, H1⟩, HgL, HgR⟩, ⟨H2, H3⟩, HeL, HeR⟩
  isplitl [HS]; · iexact HS
  isplitl [H0 H1 H2 H3]
  · isplitl [H0]; · iexists (sLf X c); iapply (Entails.of_eq (scr0_cuts c (sLf X c)).symm); iexact H0
    isplitl [H1]; · iexists (sRf X c); iapply (Entails.of_eq (scr1_cuts c (sRf X c)).symm); iexact H1
    isplitl [H2]; · iexists (sLf X (rgt c)); iapply (Entails.of_eq (scr2_cuts c (sLf X (rgt c))).symm); iexact H2
    iexists (sRf X (lft c)); iapply (Entails.of_eq (scr3_cuts c (sRf X (lft c))).symm); iexact H3
  ihave HL := (gL_all X c) $$ [HgL HeL]
  · isplitl [HgL] <;> iassumption
  ihave HR := (gR_all X c) $$ [HgR HeR]
  · isplitl [HgR] <;> iassumption
  icases HL with ⟨HL0, HL⟩
  icases HR with ⟨HR0, HR⟩
  ihave HO := (own_halves X c) $$ [HL0 HR0]
  · isplitl [HL0] <;> iassumption
  iapply (Entails.of_eq (out_placed c (outF X)).symm)
  isplitl [HL HR]
  · isplitl [HL]
    · iexact HL
    · iexact HR
  iexact HO

end Cert.KernelIdeal.Ring

end
-- ==== Proof.Sound.lean ====
/-
# The body, from the handshake to the end

A device hands its two neighbours the slices they will write, by a signal to each one's barrier; after its own
barrier wait it holds the slices it will write, and the copies run.
-/
module

public import proofs.«01_k».proof.Proof.Pieces

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → S1x2048x1024.Idx → V F) (K : Dev nD × Ck → ℕ) (c : Dev nD)

/-! ## The handshake -/

/-- The slices of a device its neighbours write: the right-going copies' go to the left neighbour, the left-going
    ones' to the right neighbour. -/
theorem rooms_split : (bigSep Finset.univ fun i : Cp => room (F := F) i c) = iprop(barP (lft c) true ∗ barP (rgt c) false) := by
  rw [bigSep_filter_split Finset.univ (fun i : Cp => i.left = !true)]
  unfold barP
  refine congrArg₂ _ (bigSep_congr fun i hi => ?_) ?_
  · have h := (Finset.mem_filter.mp hi).2
    unfold peer; rw [h]
    exact congrArg (room (F := F) i) (rgt_lft c).symm
  · have e : (Finset.univ.filter fun i : Cp => ¬ i.left = !true) = Finset.univ.filter fun i : Cp => i.left = !false :=
      Finset.filter_congr fun i _ => by cases i.left <;> decide
    rw [e]
    refine bigSep_congr fun i hi => ?_
    have h := (Finset.mem_filter.mp hi).2
    unfold peer; rw [h]
    exact congrArg (room (F := F) i) (lft_rgt c).symm

/-- The ghost state of a device at the start. -/
def ghost : sProp 𝕄 :=
  iprop(records X K ∗ (atPos ER (barCell c) 0 ∅ 0 ∗ dutyTok ER (barCell (lft c)) 0 true ∗ dutyTok ER (barCell (rgt c)) 0 false)
    ∗ bigSep Finset.univ fun i : Cp => lin (F := F) c i)

/-- The credit a device is given. -/
def creds : sProp 𝕄 :=
  iprop(cred (tallyAt (barCell c) () 2) ∗ bigSep Finset.univ fun i : Cp => cred (tallyAt (rvCell c i) () N))

/-- A device's scratch buffers, whole. -/
def scratch : sProp 𝕄 :=
  iprop((∃ f, held c cc0_scratch0 (Finset.univ : Finset S8x128x1024.Idx) fullShare f)
    ∗ (∃ f, held c cc0_scratch1 (Finset.univ : Finset S7x128x1024.Idx) fullShare f)
    ∗ (∃ f, held c cc0_scratch2 (Finset.univ : Finset S8x128x1024.Idx) fullShare f)
    ∗ (∃ f, held c cc0_scratch3 (Finset.univ : Finset S7x128x1024.Idx) fullShare f))

/-- What the body starts from. -/
def bodyStart : sProp 𝕄 :=
  iprop(ghost X K c ∗ creds c ∗ levAts L lv ∗ scratch c
    ∗ (∃ f, held c cc0_stg1_0 (Finset.univ : Finset S16x128x1024.Idx) fullShare f)
    ∗ (∃ W, owes (c : Thread nD τ) (O₀ c) W) ∗ xP X c)

theorem todo_join : iprop((bigSep Finset.univ fun i : Cp => lin (F := F) c i)
      ∗ (bigSep Finset.univ fun i : Cp => cred (tallyAt (rvCell c i) () N))
      ∗ (bigSep Finset.univ fun i : Cp => room (F := F) i (peer i c)) ∗ bigSep Finset.univ fun i : Cp => seed (F := F) i c)
    ⊢ (bigSep Finset.univ fun i : Cp => Res X c i (ph ![0, 0, 0, 0] ![0, 0, 0, 0] i) : sProp 𝕄) := by
  have e (i : Cp) : Res X c i (ph ![0, 0, 0, 0] ![0, 0, 0, 0] i)
      = iprop((lin c i ∗ cred (tallyAt (rvCell c i) () N) ∗ room i (peer i c)) ∗ seed i c) := by
    have h0 : (![0, 0, 0, 0] : Fin 4 → ℕ) i.fam ≤ i.ix := by
      have : (![0, 0, 0, 0] : Fin 4 → ℕ) i.fam = 0 := by cases i <;> rfl
      omega
    rw [ph_todo _ _ i h0 h0]; rfl
  rw [bigSep_congr fun i _ => e i, bigSep_sep', bigSep_sep', bigSep_sep']
  iintro ⟨H1, H2, H3, H4⟩
  isplitr [H4]
  · isplitl [H1]; · iexact H1
    isplitl [H2]; · iexact H2
    iexact H3
  iexact H4

theorem handshake_runs (Q : PUnit → sProp 𝕄)
    (H : Runs c (At X K c ![0, 0, 0, 0] ![0, 0, 0, 0]) (scatter c <| gather c (.ret ⟨⟩)) Q) :
    Runs c (bodyStart X K c) body Q := by
  unfold Runs body
  simp only [semSignalWord, semWaitWord, Prog.lift, Prog.bind_op, Prog.bind_ret, Prog.pure_eq_ret, wp_deviceId]
  rw [lftD_eq, rgtD_eq]
  have e0 : owe c (ph ![0, 0, 0, 0] ![0, 0, 0, 0]) = owe c (fun _ => .todo) := owe_congr c fun i => by
    have h0 : (![0, 0, 0, 0] : Fin 4 → ℕ) i.fam ≤ i.ix := by
      have : (![0, 0, 0, 0] : Fin 4 → ℕ) i.fam = 0 := by cases i <;> rfl
      omega
    rw [ph_todo _ _ i h0 h0]
  have hB : bigSep ((Rd X).duties ((c : Thread nD τ), SemLoc.reg barSem) 0 \ ∅)
      (fun d => (Rd X).payload ((c : Thread nD τ), SemLoc.reg barSem) 0 d) = bigSep Finset.univ fun i : Cp => room (F := F) i (peer i c) :=
    rest_bar X c
  have hd (e : Dev nD) (d : Bool) : d ∈ (Rd X).duties ((e : Thread nD τ), SemLoc.reg barSem) 0 :=
    (duties_k X e none).symm ▸ Finset.mem_univ d
  have hp (e : Dev nD) (d : Bool) : (Rd X).payload ((e : Thread nD τ), SemLoc.reg barSem) 0 d = barP e d := payload_k X e none d
  unfold bodyStart ghost creds scratch
  iintro ⟨⟨#HR, ⟨HatB, HtL, HtR⟩, Hlin⟩, ⟨HcB, HcV⟩, #Hlev, ⟨H0, H1, H2, H3⟩, Hout, ⟨%W, HO⟩, Hx⟩
  ihave Hb := (split_buffers c) $$ [H0 H1 H2 H3 Hout]
  · isplitl [H0]; · iexact H0
    isplitl [H1]; · iexact H1
    isplitl [H2]; · iexact H2
    isplitl [H3]; · iexact H3
    iexact Hout
  icases Hb with ⟨Hseed, Hroom⟩
  ihave Hroom := (Entails.of_eq (rooms_split c)) $$ Hroom
  icases Hroom with ⟨HrL, HrR⟩
  iapply (Rounds.wp_signal 𝒱₀ ER (Rd X) (c : Thread nD τ) none (dst := (lft c : Thread nD τ)) (κ := K (lft c, none))
      (d := true) (hd _ _) ((amount_k X (lft c) none true).trans (by decide)) () (O₁ c) rfl)
    $$ [HO HtL HrL]
  · isplitr; · iapply (inv_at X K (lft c) none); iexact HR
    isplitl [HO]; · iexact HO
    isplitl [HtL]; · iexact HtL
    isplitl [HrL]
    · iapply (Entails.of_eq (hp _ _).symm); iexact HrL
    iapply (reached_at X K (lft c) none); iexact HR
  iintro HO
  iapply (Rounds.wp_signal 𝒱₀ ER (Rd X) (c : Thread nD τ) none (dst := (rgt c : Thread nD τ)) (κ := K (rgt c, none))
      (d := false) (hd _ _) ((amount_k X (rgt c) none false).trans (by decide)) () (owe c fun _ => .todo) rfl)
    $$ [HO HtR HrR]
  · isplitr; · iapply (inv_at X K (rgt c) none); iexact HR
    isplitl [HO]; · iexact HO
    isplitl [HtR]; · iexact HtR
    isplitl [HrR]
    · iapply (Entails.of_eq (hp _ _).symm); iexact HrR
    iapply (reached_at X K (rgt c) none); iexact HR
  iintro HO
  iapply (Rounds.wp_wait_rest_token 𝒱₀ ER (Rd X) (c : Thread nD τ) none (κ := K (c, none))
      (wpE_semWait_eq 𝒱₀ (c : Thread nD τ) none Set.univ) (Set.mem_univ _) () (O := owe c fun _ => .todo) (W := W) (R := 0) (m := 0) (T := ∅)
      ((expect_bar X c).symm ▸ by decide)) $$ [HcB HO HatB]
  · isplitr; · iapply (inv_at X K c none); iexact HR
    isplitl [HcB]; · iexact HcB
    isplitl [HO]; · iexact HO
    isplitr
    · iapply (mayWait_owe c (csem none) (fun _ => .todo) 1 (by rw [dec_csem]; exact le_refl 1) (fun i _ => by omega)); iexact Hlev
    iexact HatB
  iintro ⟨HO, HatB, -, Hpay⟩
  ihave Hroom := (Entails.of_eq hB) $$ Hpay
  imod (Rounds.cell_close ER (Rd X) (Set.mem_univ (K (c, none))) (fun h => h) (R := 0 + 1) (duties_later X (barCell c))) $$ [HatB] with HzB
  · isplitr; · iapply (inv_at X K c none); iexact HR
    iexact HatB
  iapply H
  unfold At Inv
  isplitr; · iexact HR
  isplitr; · iexact Hlev
  isplitl [Hlin HcV Hroom Hseed]
  · iapply (todo_join X c)
    isplitl [Hlin]; · iexact Hlin
    isplitl [HcV]; · iexact HcV
    isplitl [Hroom]; · iexact Hroom
    iexact Hseed
  isplitl [HO]
  · iexists _; rw [e0]; iexact HO
  isplitl [Hx]; · iexact Hx
  iexact HzB

/-! ## The whole body -/

/-- What the body ends with. -/
def bodyEnd : sProp 𝕄 :=
  iprop((semVal (barCell c) 0 ∗ bigSep Finset.univ fun i : Cp => iprop(semVal (sdCell c i) 0 ∗ semVal (rvCell c i) 0))
    ∗ scratch c ∗ held c cc0_stg1_0 (Finset.univ : Finset S16x128x1024.Idx) fullShare (outF X)
    ∗ (∃ W, owes (c : Thread nD τ) 0 W) ∗ xP X c)

theorem end_intro : At X K c ![64, 56, 64, 56] ![64, 56, 64, 56] ⊢ bodyEnd X c := by
  have hf : ph ![64, 56, 64, 56] ![64, 56, 64, 56] = Cp.fin := funext fun i => ph_fin _ _ i (by
    rcases i with ⟨s, j⟩ | ⟨s, j⟩ | ⟨s, j⟩ | ⟨s, j⟩ <;> simp [Cp.fam, Cp.ix] <;> omega)
  have ho : owe c Cp.fin = 0 := Finset.sum_eq_zero fun i _ => by rw [fin_sent]; exact if_neg (by decide)
  show Inv X K c (ph ![64, 56, 64, 56] ![64, 56, 64, 56]) ⊢ _
  rw [hf]
  unfold Inv bodyEnd scratch
  rw [ho]
  iintro ⟨-, -, HRes, HO, Hx, HzB⟩
  ihave HJ := (join_buffers X c) $$ HRes
  icases HJ with ⟨HS, Hscr, Hout⟩
  isplitl [HzB HS]
  · isplitl [HzB]; · iexact HzB
    iexact HS
  isplitl [Hscr]; · iexact Hscr
  isplitl [Hout]; · iexact Hout
  isplitl [HO]; · iexact HO
  iexact Hx

/-- The body runs from its start to its end. -/
theorem body_runs (Q : PUnit → sProp 𝕄) (HQ : bodyEnd X c ⊢ Q ⟨⟩) : Runs c (bodyStart X K c) body Q := by
  refine handshake_runs X K c _ ?_
  refine scatter_runs X K c _ _ ?_
  refine gather_runs X K c _ _ ?_
  unfold Runs
  rw [wp_ret]
  exact ((end_intro X K c).trans HQ).trans fupd_intro

end Cert.KernelIdeal.Ring

end
-- ==== Proof.Body.lean ====
/-
# The printed body is the program over its steps

The two programs compute by definition to the same sequence of operations.
-/
module

public import proofs.«01_k».proof.Proof.Steps
public import Idealize.ShloMosaic.Lib.Pipeline.Regions

@[expose] public section

set_option maxRecDepth 16384

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-- The printed body on the launch's buffers and semaphores is `body`. -/
theorem body_eq (t : Fin cfg0.N) : bodyAt0 (F := F) t = body := by
  chain_rfl

end Cert.KernelIdeal.Ring

end
-- ==== Proof.Launch.lean ====
/-
# The launch

The kernel is the launch's one pallas_call. Every device starts with its cells' ghost state, the credit its
neighbours owe it and its buffers; it runs its body once and ends with the result.
-/
module

public import proofs.«01_k».proof.Proof.Sound
public import proofs.«01_k».proof.Proof.Body

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch. -/
def s₀ : MemSt nD τ sig (Elt F) := ⟨m, fun _ => 0, ρ⟩

/-- Device `c`'s block of the argument, as staged. -/
def xstg (c : Dev nD) : S1x2048x1024.Idx → V F :=
  (win0_0.blk (0 : Fin 1)).view.read (Elt F) ((s₀ m ρ).mem ((c : Thread nD τ).loc main_arg0))

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` holds before its body. -/
def start (c : Dev nD) : sProp 𝕄 := iprop((∃ K, ghost (xstg m ρ) K c) ∗ creds c ∗ levAts L lv)

def Φ₀ (c : Dev nD) : sProp 𝕄 := iprop(start m ρ c ∗ scratch c)
def Φ₁ (c : Dev nD) : sProp 𝕄 :=
  iprop((semVal (barCell c) 0 ∗ bigSep Finset.univ fun i : Cp => iprop(semVal (sdCell c i) 0 ∗ semVal (rvCell c i) 0)) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF (xstg m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

abbrev stg (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

def pre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def post (c : Dev nD) : sProp 𝕄 :=
  iprop(Φ₁ c ∗ (dats m ρ 0 c).owesAt () t₀.succ ∗ stg c cc0_stg0_0 (xstg m ρ c) ∗ stg c cc0_stg1_0 (outF (xstg m ρ)))

theorem pre_start (c : Dev nD) : pre m ρ c ⊢ iprop(∃ K, bodyStart (xstg m ρ) K c) := by
  unfold pre Φ₀ start
  iintro ⟨⟨⟨⟨%K, Hg⟩, Hc, Hlev⟩, Hscr⟩, Ho, ⟨%d0, %g0, %hg0, Hx⟩, ⟨%d1, %g1, %hg1, Hout⟩⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  iexists K
  unfold bodyStart
  isplitl [Hg]; · iexact Hg
  isplitl [Hc]; · iexact Hc
  isplitl [Hlev]; · iexact Hlev
  isplitl [Hscr]; · iexact Hscr
  isplitl [Hout]; · iexists g1; iexact Hout
  isplitl [HO]; · iexists W; iexact HO
  unfold xP; iexact Hx

theorem end_post (c : Dev nD) : bodyEnd (xstg m ρ) c ⊢ post m ρ c := by
  unfold bodyEnd post Φ₁
  iintro ⟨HS, Hscr, Hout, ⟨%W, HO⟩, Hx⟩
  unfold Dat.owesAt Pipeline.owesWithin
  rw [show (dats m ρ 0 c).owed t₀.succ = 0 from rfl]
  isplitl [HS Hscr]
  · isplitl [HS]; · iexact HS
    iexact Hscr
  isplitl [HO]
  · iexists W
    isplitr; · ipureintro; exact fun _ _ => Or.inl trivial
    iexact HO
  isplitl [Hx]
  · iexists _; isplitr; · (ipureintro; rfl)
    unfold xP; iexact Hx
  iexists _; isplitr; · (ipureintro; rfl)
  iexact Hout

theorem point_runs (c : Dev nD) : Runs c (pre m ρ c) (bodyAt0 (F := F) t₀) (fun _ => post m ρ c) := by
  rw [body_eq]
  unfold Runs
  iintro H
  ihave H := (pre_start m ρ c) $$ H
  icases H with ⟨%K, H⟩
  iapply (body_runs (xstg m ρ) K c (fun _ => post m ρ c) (end_post m ρ c)); iexact H

/-- Every point of the launch runs its body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  generalize hp : defs₀ (F := F) Proc.tc _ _ = p
  have hb : p = bodyAt0 t₀ := by rw [← hp]; with_unfolding_all rfl
  have h := point_runs m ρ c
  rw [← hb] at h
  clear hb hp
  exact h

end Cert.KernelIdeal.Ring

end
-- ==== Proof.Deal.lean ====
/-
# What the launch deals

The credit the devices owe each other at launch, the ghost state of the cells and its distribution around the ring,
and the run of the program.
-/
module

public import proofs.«01_k».proof.Proof.Launch
public import Idealize.ShloMosaic.Lib.Pipeline.CollectiveSegs

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credit -/

theorem kcell_eq_iff {a b : Dev nD} {k k' : Ck} : kcell a k = kcell b k' ↔ a = b ∧ k = k' :=
  ⟨fun h => by have := kcell_inj (a₁ := (a, k)) (a₂ := (b, k')) h; exact ⟨congrArg Prod.fst this, congrArg Prod.snd this⟩,
    fun h => by rw [h.1, h.2]⟩

/-- What device `d` owes the barrier of device `c`. -/
theorem owed_bar (d c : Dev nD) : O₀ d (barCell c) () = (if d = lft c then 1 else 0) + (if d = rgt c then 1 else 0) := by
  have h0 : owe d (fun _ => .todo) (barCell c) () = 0 := by
    by_contra h
    obtain ⟨i, -, hi⟩ := owe_pos (Nat.pos_of_ne_zero h)
    exact absurd (kcell_eq_iff.mp hi).2 (by simp)
  unfold O₀ O₁
  rw [Pi.add_apply, Finsupp.add_apply, Pi.add_apply, Finsupp.add_apply, h0, tallyAt_apply, tallyAt_apply, Nat.zero_add]
  refine congrArg₂ _ (if_congr ?_ rfl rfl) (if_congr ?_ rfl rfl)
  · rw [kcell_eq_iff]
    exact ⟨fun h => by rw [h.1.1, lft_rgt], fun h => ⟨⟨by rw [h, rgt_lft], rfl⟩, rfl⟩⟩
  · rw [kcell_eq_iff]
    exact ⟨fun h => by rw [h.1.1, rgt_lft], fun h => ⟨⟨by rw [h, lft_rgt], rfl⟩, rfl⟩⟩

/-- What device `d` owes the receive cell of copy `i` of device `c`. -/
theorem owed_recv (d c : Dev nD) (i : Cp) : O₀ d (rvCell c i) () = if d = frm i c then N else 0 := by
  have h1 (e : Dev nD) : (tallyAt (barCell e) () 1 : CellTallies nD τ sig Unit) (rvCell c i) () = 0 := by
    rw [tallyAt_apply, if_neg]
    rintro ⟨h, -⟩
    exact absurd (kcell_eq_iff.mp h).2 (by simp)
  unfold O₀ O₁
  rw [Pi.add_apply, Finsupp.add_apply, Pi.add_apply, Finsupp.add_apply, h1, h1, Nat.add_zero]
  unfold owe
  rw [Finset.sum_apply, Finsupp.finset_sum_apply]
  rw [Finset.sum_eq_single i]
  · rw [if_pos (show Ph.todo.unsent = true from rfl), tallyAt_apply]
    refine if_congr ?_ rfl rfl
    rw [kcell_eq_iff]
    exact ⟨fun h => by rw [h.1.1, frm_peer], fun h => ⟨⟨by rw [h, peer_frm], rfl⟩, rfl⟩⟩
  · intro k _ hk
    rw [if_pos (show Ph.todo.unsent = true from rfl), tallyAt_apply, if_neg]
    rintro ⟨h, -⟩
    have := (kcell_eq_iff.mp h).2
    simp only [Option.some.injEq, Prod.mk.injEq, and_true] at this
    exact hk this.symm
  · exact fun h => absurd (Finset.mem_univ i) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1,
    if_pos (Finset.mem_univ _), if_pos (Finset.mem_univ _)]

theorem launch_recv (c : Dev nD) (i : Cp) :
    tallyOn (rvCell c i) (launchCredit (Pipeline.owing O₀) 0 (rvCell c i)) = (tallyAt (rvCell c i) () N : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (frm i c) fun _ => N, if_pos (Finset.mem_univ _)]

/-- The receive semaphores. -/
def rvEmb : Cp ↪ SemLoc sig :=
  ⟨fun i => csem (some (i, true)), fun i k h => congrArg Prod.fst (Option.some.inj (csem_inj h))⟩

theorem creds_intro (c : Dev nD) : (Pipeline.launchCred O₀ c : sProp 𝕄) ⊢ creds c := by
  unfold Pipeline.launchCred creds
  rw [bigSep_univ_at _ (SemLoc.reg barSem)]
  rw [show tallyOn ((c.tc : Thread nD τ), SemLoc.reg barSem) (launchCredit (Pipeline.owing O₀) 0 ((c.tc : Thread nD τ), SemLoc.reg barSem))
    = (tallyAt (barCell c) () 2 : CellTallies nD τ sig Unit) from launch_bar c]
  refine sep_mono_right ?_
  have e : (bigSep Finset.univ fun i : Cp => (cred (tallyAt (rvCell c i) () N) : sProp 𝕄))
      = bigSep (Finset.univ.map rvEmb) fun sm : SemLoc sig =>
          cred (tallyOn ((c.tc : Thread nD τ), sm) (launchCredit (Pipeline.owing O₀) 0 ((c.tc : Thread nD τ), sm))) := by
    rw [bigSep_map]
    exact bigSep_congr fun i _ => by rw [← launch_recv c i]; rfl
  rw [e]
  refine bigSep_subset fun sm h => ?_
  obtain ⟨i, -, rfl⟩ := Finset.mem_map.mp h
  exact Finset.mem_erase.mpr ⟨osem_ne_bar (i, true), Finset.mem_univ _⟩

/-! ## The cells -/

theorem bigSep_bool (Φ : Bool → sProp 𝕄) : bigSep Finset.univ Φ = iprop(Φ false ∗ Φ true) :=
  bigSep_univ_eq_bigSepL [false, true] (by decide) (by decide) Φ
theorem bigSep_keys (Φ : Cp × Bool → sProp 𝕄) : bigSep Finset.univ Φ
    = iprop((bigSep Finset.univ fun i : Cp => Φ (i, false)) ∗ bigSep Finset.univ fun i : Cp => Φ (i, true)) := by
  rw [bigSep_univ_prod, bigSep_congr fun i _ => bigSep_bool (fun b => Φ (i, b)), bigSep_sep']
theorem bigSep_ck (Φ : Ck → sProp 𝕄) : bigSep Finset.univ Φ = iprop(Φ none ∗ bigSep Finset.univ fun k => Φ (some k)) := by
  rw [bigSep_univ_at Φ none]
  have e : (Finset.univ.erase none : Finset Ck) = Finset.univ.map Function.Embedding.some :=
    Finset.ext fun k => by cases k <;> simp
  rw [e, bigSep_map]; rfl

def ringCells : Finset (GSem nD τ sig) := Finset.univ.map ⟨fun p : Dev nD × Ck => kcell p.1 p.2, kcell_inj⟩

/-- The duties of a device's own cells: its barrier's two, and one of every other. -/
abbrev tokOf (p : Dev nD × (Bool ⊕ (Cp × Bool))) : GSem nD τ sig × ℕ × Bool :=
  match p.2 with
  | .inl d => (barCell p.1, 0, d)
  | .inr k => (kcell p.1 (some k), 0, false)
theorem tokOf_injective : Function.Injective tokOf := by
  rintro ⟨c, d | k⟩ ⟨c', d' | k'⟩ h
  · have h1 : c = c' := (kcell_eq_iff.mp (congrArg Prod.fst h)).1
    have h2 : d = d' := congrArg (fun x => x.2.2) h
    rw [h1, h2]
  · exact absurd (kcell_eq_iff.mp (congrArg Prod.fst h)).2 (by simp)
  · exact absurd (kcell_eq_iff.mp (congrArg Prod.fst h)).2 (by simp)
  · have h1 : c = c' := (kcell_eq_iff.mp (congrArg Prod.fst h)).1
    have h2 : k = k' := Option.some.inj (kcell_eq_iff.mp (congrArg Prod.fst h)).2
    rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of a device's own cells. -/
def toks (c : Dev nD) : sProp 𝕄 :=
  iprop((dutyTok ER (barCell c) 0 false ∗ dutyTok ER (barCell c) 0 true)
    ∗ (bigSep Finset.univ fun i : Cp => dutyTok ER (sdCell c i) 0 false) ∗ bigSep Finset.univ fun i : Cp => dutyTok ER (rvCell c i) 0 false)

/-- What the launch deals a device. -/
def G (c : Dev nD) : sProp 𝕄 :=
  iprop((bigSep Finset.univ fun k : Ck => roundState ER (Rd (xstg m ρ)) (kcell c k) 0)
    ∗ ((bigSep Finset.univ fun k : Ck => atPos ER (kcell c k) 0 ∅ 0) ∗ bigSep Finset.univ fun k : Ck => reached ER (kcell c k) 0) ∗ toks c)

/-- What the devices make of it. -/
def G' (c : Dev nD) : sProp 𝕄 := iprop(∃ K, ghost (xstg m ρ) K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Ck => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool, bigSep_keys]; rfl
  iintro HX
  imod (Rounds.fund ER (Rd (xstg m ρ)) ringCells ringToks) $$ HX with ⟨Hst, Hr, Hat, Htok⟩
  imodintro
  ihave Hst' := (Entails.of_eq (hX fun g => roundState ER (Rd (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

theorem dma_scoped (q : DmaSem sig) : (SemLoc.dma q : SemLoc sig).isScoped .tc = true := by
  revert q; decide +kernel
theorem staged_lt (w : Fin cfg0.W) (s : Fin (cfg0.win w).nbuf) : ((cfg0.win w).sem s).val < 2 := by
  revert w; decide

theorem ownSemFacts : Pipeline.OwnSemFacts cfg0.spec osem where
  isScoped k := by
    obtain ⟨q, hq, -⟩ := osem_no k
    rw [hq]; exact dma_scoped q
  inj := osem_inj
  disj k w s h := by
    obtain ⟨q, hq, hn⟩ := osem_no k
    have h2 := semNo_ge k
    have h3 := staged_lt w s
    rw [hq] at h
    have : q = (cfg0.win w).sem s := SemLoc.dma.inj h
    rw [this] at hn
    omega

/-- The barrier's is the one semaphore the kernel does not own. -/
theorem unscopedSems0_eq (c : Dev nD) : (unscopedSems0 c : sProp 𝕄) = semVal (barCell c) 0 := by
  unfold unscopedSems0; rw [bigSep_eq_bigSepL_of_eq [SemLoc.reg barSem] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell c k) 0 : sProp 𝕄) := by
  rw [unscopedSems0_eq, bigSep_ck]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Ck => iprop(∃ κ : ℕ, cellInv ER (Rd (xstg m ρ)) κ (kcell c k)))
          ∗ ((bigSep Finset.univ fun k : Ck => atPos ER (kcell c k) 0 ∅ 0) ∗ bigSep Finset.univ fun k : Ck => reached ER (kcell c k) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Ck => semVal (kcell c k) 0) ∗ bigSep Finset.univ fun k : Ck => roundState ER (Rd (xstg m ρ)) (kcell c k) 0)
      ⊢ (|={Set.univ}=> bigSep Finset.univ fun k : Ck => iprop(∃ κ : ℕ, cellInv ER (Rd (xstg m ρ)) κ (kcell c k)) : sProp 𝕄) from by
        rw [← bigSep_sep']
        exact (bigSep_mono fun k _ => (Rounds.body_intro ER (Rd (xstg m ρ)) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- What a device keeps: its positions, and the tokens of the duties it pays. -/
def keep (c : Dev nD) : sProp 𝕄 :=
  iprop((atPos ER (barCell c) 0 ∅ 0 ∗ dutyTok ER (barCell (lft c)) 0 true ∗ dutyTok ER (barCell (rgt c)) 0 false)
    ∗ bigSep Finset.univ fun i : Cp => lin (F := F) c i)

/-- The tokens of the receive cells, each to the device whose copy arrives there. -/
theorem recv_around : (bigSep Finset.univ fun c : Dev nD => bigSep Finset.univ fun i : Cp => (dutyTok ER (rvCell c i) 0 false : sProp 𝕄))
    = bigSep Finset.univ fun c : Dev nD => bigSep Finset.univ fun i : Cp => dutyTok ER (rvCell (peer i c) i) 0 false := by
  rw [bigSep_univ_comm (fun (c : Dev nD) (i : Cp) => (dutyTok ER (rvCell c i) 0 false : sProp 𝕄)),
    bigSep_univ_comm (fun (c : Dev nD) (i : Cp) => (dutyTok ER (rvCell (peer i c) i) 0 false : sProp 𝕄))]
  exact bigSep_congr fun i _ => bigSep_univ_equiv (peerE i) (fun c : Dev nD => (dutyTok ER (rvCell c i) 0 false : sProp 𝕄))

theorem keep_intro : iprop((bigSep Finset.univ fun c : Dev nD => bigSep Finset.univ fun k : Ck => (atPos ER (kcell c k) 0 ∅ 0 : sProp 𝕄))
      ∗ bigSep Finset.univ fun c : Dev nD => (toks c : sProp 𝕄)) ⊢ bigSep Finset.univ fun c : Dev nD => keep (F := F) c := by
  unfold toks keep lin
  simp only [bigSep_ck, bigSep_keys, bigSep_sep']
  rw [recv_around, bigSep_univ_equiv ring (fun c : Dev nD => (dutyTok ER (barCell c) 0 false : sProp 𝕄)),
    bigSep_univ_equiv ring.symm (fun c : Dev nD => (dutyTok ER (barCell c) 0 true : sProp 𝕄))]
  iintro ⟨⟨HB, HS, HV⟩, ⟨HtR, HtL⟩, HtS, HtV⟩
  isplitl [HB HtL HtR]
  · isplitl [HB]; · iexact HB
    isplitl [HtL]; · iexact HtL
    iexact HtR
  isplitl [HS]; · iexact HS
  isplitl [HV]; · iexact HV
  isplitl [HtS]; · iexact HtS
  iexact HtV

theorem ghost_intro (K : Dev nD × Ck → ℕ) (c : Dev nD) : iprop(records (xstg m ρ) K ∗ keep c) ⊢ G' m ρ c := by
  unfold keep G' ghost
  iintro ⟨HR, Hk, Hlin⟩
  iexists K
  isplitl [HR]; · iexact HR
  isplitl [Hk]; · iexact Hk
  iexact Hlin

theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Ck => iprop(∃ κ : ℕ, cellInv ER (Rd (xstg m ρ)) κ (kcell c k)))
          ∗ ((bigSep Finset.univ fun k : Ck => atPos ER (kcell c k) 0 ∅ 0) ∗ bigSep Finset.univ fun k : Ck => reached ER (kcell c k) 0) ∗ toks c) : sProp 𝕄)
      ⊢ bigSep Finset.univ (G' m ρ) := by
  rw [bigSep_sep', bigSep_sep', bigSep_sep',
    ← bigSep_univ_prod (fun p : Dev nD × Ck => iprop(∃ κ : ℕ, cellInv ER (Rd (xstg m ρ)) κ (kcell p.1 p.2))),
    ← bigSep_univ_prod (fun p : Dev nD × Ck => (reached ER (kcell p.1 p.2) 0 : sProp 𝕄))]
  iintro ⟨HI, ⟨Hat, #HR⟩, Htok⟩
  ihave HK := (BI.bigSep_exists_pi Finset.univ (fun (p : Dev nD × Ck) (κ : ℕ) => (cellInv ER (Rd (xstg m ρ)) κ (kcell p.1 p.2) : sProp 𝕄))) $$ HI
  icases HK with ⟨%K, #HI⟩
  ihave Hk := (keep_intro (F := F)) $$ [Hat Htok]
  · isplitl [Hat]; · iexact Hat
    iexact Htok
  iapply (bigSep_under (R := records (xstg m ρ) K) fun c _ => ghost_intro m ρ K c)
  isplitr
  · unfold records; isplitl; · iexact HI
    iexact HR
  iexact Hk

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The start and the end of a device -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch Pipeline.ownSems0
  rw [bigSep_keys, bigSep_sep']
  iintro ⟨⟨HB, HS, HV⟩, Hr⟩
  isplitl [HB]; · iexact HB
  isplitl [HS HV]
  · isplitl [HS]; · iexact HS
    iexact HV
  iexact Hr

theorem waits (c : Dev nD) : (levAts L lv : sProp 𝕄) ⊢ Pipeline.cellsWaits cfgs (dats m ρ) () 0 c :=
  Pipeline.cellsWaits_intro cfgs (dats m ρ) () 0 c fun w s t => by
    have hd : dec (.dma ((cfg0.win w).sem s)) = none := by
      cases h : dec (.dma ((cfg0.win w).sem s)) with
      | none => rfl
      | some k =>
        have hk := csem_of_dec h
        cases k with
        | none => cases hk
        | some k => exact absurd hk (ownSemFacts.disj k w s)
    rcases t with ⟨_ | _, ht⟩
    · exact mayWait_O₀ c _ hd
    · show _ ⊢ MayWait _ _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 1000000 in
/-- From any memory with zero counters every weakly fair execution terminates, with the arrays at the computed
    contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.Sum.lean ====
/-
# The sum over the devices

Over the extended reals the whole sum of a chunk, which the kernel computes by going around the ring in both
directions, is the sum over the sixteen devices. The reference's result is the same sum.
-/
module

public import proofs.«01_k».proof.Proof.Values
public import proofs.«01_k».proof.Proof.Gen.ReferenceIdeal.Run
public import Idealize.ShloMosaic.Lib.IdealHost
public import Idealize.ShloMosaic.Lib.Pointwise.Reduce
public import Idealize.ShloMosaic.Lib.Pipeline.Value
public import Idealize.ShloMosaic.Lib.Layout

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx

open scoped BigOperators

/-! ## The part sums, as sums -/

section Parts
variable (X : Dev nD → S1x2048x1024.Idx → V Ideal) (i : Fin 128) (n : Fin 1024)

/-- The contribution to chunk `r` of the device whose number is `k` modulo sixteen, an extended real. -/
def part (r : Fin 16) (k : ℕ) : EReal := xat X (devOf (ch k)) r i n

theorem part_congr (r : Fin 16) {k l : ℕ} (h : k % 16 = l % 16) : part X i n r k = part X i n r l := by
  unfold part; rw [show ch k = ch l from Fin.ext h]
theorem part_dev (r : Fin 16) (c : Dev nD) : part X i n r c.val = xat X c r i n := by
  unfold part; rw [show devOf (ch c.val) = c from Fin.ext (Nat.mod_eq_of_lt c.isLt)]

/-- A part sum sent to the left is the sum of what the devices from here to the right contribute. -/
theorem WL_sum : ∀ (s : ℕ) (c : Dev nD),
    WL X s c i n = ∑ k ∈ Finset.range (s + 1), part X i n (ch (c.val + 8 + s)) (c.val + k)
  | 0, c => by
    rw [Finset.sum_range_one]; exact (part_dev X i n _ c).symm
  | s + 1, c => by
    rw [Finset.sum_range_succ', Nat.add_zero c.val, part_dev]
    refine Eq.trans ?_ (add_comm _ _)
    show xat X c (ch (c.val + 8 + (s + 1))) i n + WL X s (rgt c) i n = _
    rw [WL_sum s (rgt c)]
    have hr : (rgt c).val = (c.val + 1) % 16 := rfl
    have hc : ch ((rgt c).val + 8 + s) = ch (c.val + 8 + (s + 1)) := Fin.ext (by show _ % 16 = _ % 16; omega)
    rw [hc]
    exact congrArg _ (Finset.sum_congr rfl fun k _ => part_congr X i n _ (by omega))

/-- A part sum sent to the right is the sum of what the devices from here to the left contribute. -/
theorem WR_sum : ∀ (s : ℕ) (hs : s ≤ 7) (c : Dev nD),
    WR X s c i n = ∑ k ∈ Finset.range (s + 1), part X i n (ch (c.val + 7 - s)) (c.val + 15 * k)
  | 0, _, c => by
    rw [Finset.sum_range_one]; exact (part_dev X i n _ c).symm
  | s + 1, hs, c => by
    rw [Finset.sum_range_succ', Nat.mul_zero, Nat.add_zero c.val, part_dev]
    refine Eq.trans ?_ (add_comm _ _)
    show xat X c (ch (c.val + 7 - (s + 1))) i n + WR X s (lft c) i n = _
    rw [WR_sum s (by omega) (lft c)]
    have hr : (lft c).val = (c.val + 15) % 16 := rfl
    have hc : ch ((lft c).val + 7 - s) = ch (c.val + 7 - (s + 1)) := Fin.ext (by show _ % 16 = _ % 16; omega)
    rw [hc]
    exact congrArg _ (Finset.sum_congr rfl fun k _ => part_congr X i n _ (by omega))

/-- The devices counted from any one of them. -/
theorem sum_from (r : Fin 16) (f : Fin 16 → EReal) : ∑ d : Fin 16, f d = ∑ k ∈ Finset.range 16, f (ch (r.val + k)) := by
  rw [← Equiv.sum_comp (Equiv.addLeft r) f, ← Fin.sum_univ_eq_sum_range (fun k => f (ch (r.val + k)))]
  rfl

/-- The whole sum of a chunk is the sum over the devices. -/
theorem own_total (r : Fin 16) : own X r i n = ∑ d : Fin 16, xat X (devOf d) r i n := by
  have hl : ch ((rgt (devOf r)).val + 8 + 7) = r :=
    Fin.ext (by have := r.isLt; show ((r.val + 1) % 16 + 8 + 7) % 16 = r.val; omega)
  have hw : ch ((lft (devOf r)).val + 7 - 6) = r :=
    Fin.ext (by have := r.isLt; show ((r.val + 15) % 16 + 7 - 6) % 16 = r.val; omega)
  rw [sum_from r]
  show (xat X (devOf r) r i n + WL X 7 (rgt (devOf r)) i n) + WR X 6 (lft (devOf r)) i n
    = ∑ k ∈ Finset.range 16, part X i n r (r.val + k)
  rw [WL_sum, WR_sum X i n 6 (by decide), hl, hw, ← part_dev]
  have eL (k : ℕ) : part X i n r ((rgt (devOf r)).val + k) = part X i n r (r.val + (k + 1)) :=
    part_congr X i n r (by show ((r.val + 1) % 16 + k) % 16 = _; omega)
  have eR (k : ℕ) (hk : k < 7) : part X i n r ((lft (devOf r)).val + 15 * k) = part X i n r (r.val + 1 + 8 + (7 - 1 - k)) :=
    part_congr X i n r (by show ((r.val + 15) % 16 + 15 * k) % 16 = _; omega)
  rw [Finset.sum_congr rfl fun k _ => eL k, Finset.sum_congr rfl fun k hk => eR k (Finset.mem_range.mp hk),
    Finset.sum_range_reflect (fun k => part X i n r (r.val + 1 + 8 + k)) 7]
  show part X i n r r.val + _ + _ = _
  rw [Finset.sum_range_succ' _ 15, Finset.sum_range_add (fun k => part X i n r (r.val + (k + 1))) 8 7]
  have e7 (k : ℕ) : part X i n r (r.val + 1 + 8 + k) = part X i n r (r.val + (8 + k + 1)) := part_congr X i n r (by omega)
  rw [Finset.sum_congr rfl fun k _ => e7 k, Nat.add_zero r.val]
  exact (add_assoc _ _ _).trans (add_comm _ _)

end Parts

/-! ## The reference -/

theorem row_lt (x : S16x128x1024.Idx) : 128 * (x 0).val + (x 1).val < 2048 := by
  have h0 : (x 0).val < 16 := (x 0).isLt
  have h1 : (x 1).val < 128 := (x 1).isLt
  omega

/-- The reference's result at an index: the sum over the devices of their elements there. -/
theorem reference_at (A : ReferenceIdeal.S16x2048x1024.Idx → V Ideal) (x : S16x128x1024.Idx) :
    shapeCast (α := Ideal .bf16) S16x128x1024
        (truncf (F := Ideal) .bf16 (Host.reduceAdd (F := Ideal) (extf (F := Ideal) .f32 A ReferenceIdeal.Gen.bitsLt_bf16_f32)
          (constant (F := Ideal) ReferenceIdeal.S_ .f32 0x00000000#32)
          ReferenceIdeal.Gen.reducesTo_S16x2048x1024_S2048x1024_d0 ReferenceIdeal.Gen.h_S_) ReferenceIdeal.Gen.bitsLt_bf16_f32)
        ReferenceIdeal.Gen.shapeCasts_S2048x1024_S16x128x1024 x
      = ∑ d : Fin 16, (A (ValueIdx.ix3 d (⟨128 * (x 0).val + (x 1).val, row_lt x⟩ : Fin 2048) (x 2)) : EReal) := by
  refine (shapeCast_apply _ _ x (ValueIdx.ix2 (⟨128 * (x 0).val + (x 1).val, row_lt x⟩ : Fin 2048) (x 2)) ?_).trans ?_
  · rw [Shape.rowMajor_val_two, Shape.rowMajor_val_three]
    show (128 * (x 0).val + (x 1).val) * 1024 + (x 2).val = ((x 0).val * 128 + (x 1).val) * 1024 + (x 2).val
    omega
  refine (hostReduceAdd_apply _ _ ReferenceIdeal.Gen.reducesTo_S16x2048x1024_S2048x1024_d0 ReferenceIdeal.Gen.h_S_ _).trans ?_
  refine (Ideal.hostReduceAdd_r3_a0 ReferenceIdeal.Gen.reducesTo_S16x2048x1024_S2048x1024_d0 _ _ _).trans ?_
  have h0 : constant (F := Ideal) ReferenceIdeal.S_ .f32 0x00000000#32 (Shape.Idx.first ReferenceIdeal.Gen.h_S_) = (0 : EReal) :=
    Ideal.ofBits_zero_f32
  exact (congrArg (· + _) h0).trans (zero_add _)

end Cert.KernelIdeal.Ring

end
-- ==== Proof.Result.lean ====
/-
# The result

The result array of every device ends holding the sums, and over the extended reals these are the reference's.
-/
module

public import proofs.«01_k».proof.Proof.Deal
public import proofs.«01_k».proof.Proof.Sum
public import Idealize.ShloMosaic.Lib.Pipeline.ValueKit.Geometry

@[expose] public section

set_option maxRecDepth 16384

noncomputable section

namespace Cert.KernelIdeal.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The staged block is the argument. -/
theorem xstg_eq (c : Dev nD) (y : S1x2048x1024.Idx) : xstg m ρ c y = m ((c : Thread nD τ).loc main_arg0) y := by
  unfold xstg
  rw [View.read_apply]
  refine congrArg (m ((c : Thread nD τ).loc main_arg0)) (funext fun a => Fin.ext ?_)
  exact Pipeline.Window.rect_emb_val_of_index_zero win0_0 (0 : Fin 1) a (by revert a; decide) y

/-- The argument is left as it was. -/
theorem final_arg (c : Dev nD) : finalA m ρ c (0 : Fin 2) = m ((c : Thread nD τ).loc main_arg0) :=
  (dats m ρ 0 c).arrAt_in (0 : Fin 2) rfl _

/-- The result array ends holding the sums. -/
theorem final_out (c : Dev nD) : finalA m ρ c (1 : Fin 2) = outF (xstg m ρ) :=
  (dats m ρ 0 c).arrAt_eq_of_after_last (1 : Fin 2) t₀ (by decide +kernel) _ fun j => rfl

/-- The program's run: the argument unchanged, the result at the sums, every counter at zero. -/
theorem run_values : θ_run defs (onTc (τ := τ) (main (F := F))) ⟨m, fun _ => 0, ρ⟩ (fun r =>
    (∀ c : Dev nD, r.2.mem ((c : Thread nD τ).loc main_v1) = outF (xstg m ρ)
      ∧ r.2.mem ((c : Thread nD τ).loc main_arg0) = m ((c : Thread nD τ).loc main_arg0))
    ∧ r.2.sem = fun _ => 0) :=
  (θ_run defs _ _).mono (fun r h => ⟨fun c =>
    ⟨(h.1 c (1 : Fin 2)).trans (final_out m ρ c), (h.1 c (0 : Fin 2)).trans (final_arg m ρ c)⟩, h.2⟩) (run_main m ρ)

/-! ## Over the extended reals -/

/-- A device's contribution, read in the whole array the devices' blocks are cut from. -/
theorem xat_block (m : (ℓ : Loc nD τ sig) → Buf (Elt Ideal) ℓ) (A : ReferenceIdeal.S16x2048x1024.Idx → V Ideal)
    (h : ∀ c : Dev nD, m ((c.tc : Thread nD τ).loc main_arg0) = Layout.block ⟨3, ![1, 2048, 1024]⟩ ⟨3, ![16, 2048, 1024]⟩ 0 16 c A)
    (d r : Fin 16) (i : Fin 128) (n : Fin 1024) :
    xat (xstg m ρ) (devOf d) r i n = A (ValueIdx.ix3 d (⟨128 * r.val + i.val, by omega⟩ : Fin 2048) n) := by
  unfold xat
  rw [xstg_eq]
  refine (congrFun (h (devOf d)) _).trans ?_
  rw [Layout.block_apply]
  refine congrArg A (funext fun a => Fin.ext ?_)
  rw [Layout.Tiles.idx_val]
  match a with
  | ⟨0, _⟩ => show d.val * 1 + 0 = d.val; omega
  | ⟨1, _⟩ => rfl
  | ⟨2, _⟩ => rfl

/-- The kernel's result is the reference's. -/
theorem outF_reference (m : (ℓ : Loc nD τ sig) → Buf (Elt Ideal) ℓ) (A : ReferenceIdeal.S16x2048x1024.Idx → V Ideal)
    (h : ∀ c : Dev nD, m ((c.tc : Thread nD τ).loc main_arg0) = Layout.block ⟨3, ![1, 2048, 1024]⟩ ⟨3, ![16, 2048, 1024]⟩ 0 16 c A) :
    outF (xstg m ρ) = shapeCast (α := Ideal .bf16) S16x128x1024
        (truncf (F := Ideal) .bf16 (Host.reduceAdd (F := Ideal) (extf (F := Ideal) .f32 A ReferenceIdeal.Gen.bitsLt_bf16_f32)
          (constant (F := Ideal) ReferenceIdeal.S_ .f32 0x00000000#32)
          ReferenceIdeal.Gen.reducesTo_S16x2048x1024_S2048x1024_d0 ReferenceIdeal.Gen.h_S_) ReferenceIdeal.Gen.bitsLt_bf16_f32)
        ReferenceIdeal.Gen.shapeCasts_S2048x1024_S16x128x1024 := by
  funext x
  rw [reference_at]
  refine (own_total (xstg m ρ) (x 1) (x 2) (x 0)).trans (Finset.sum_congr rfl fun d _ => ?_)
  exact xat_block ρ m A h d (x 0) (x 1) (x 2)

end Cert.KernelIdeal.Ring

end
-- ==== Proof.lean ====
/- The proof of the claim: the frames of the kernel at the machine's numbers and over the extended reals and of the
   reference, and the equality of the kernel's result with the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Adequacy
public import Idealize.ShloMosaic.Init

@[expose] public section

noncomputable section

namespace Cert.Proof

open Idealize.ShloMosaic Idealize.SL.Sem Cert.Kernel

/-- The two printed kernels are one text: their bodies are the same, -/
theorem bodies_eq : Cert.Kernel.defs₀ (F := Bits) = Cert.KernelIdeal.defs₀ (F := Bits) :=
  congrArg Defs.onTc (funext fun ℓ => funext fun x => by
    match ℓ, x with
    | 0, (t, s) => rfl)
/-- and so are their tables. -/
theorem tables_eq : Cert.Kernel.defs (F := Bits) = Cert.KernelIdeal.defs (F := Bits) := congrArg (Pipeline.defs _) bodies_eq

/-- At the machine's numbers the program terminates from every memory, the argument unchanged, every counter at zero. -/
theorem frame_kernel : Cert.quiescent_Kernel := fun m ρ _ =>
  have h : θ_run (Cert.KernelIdeal.defs (F := Bits)) (onTc (τ := Cert.KernelIdeal.τ) (Cert.KernelIdeal.main (F := Bits))) ⟨m, fun _ => 0, ρ⟩ (fun r =>
      (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
    (θ_run Cert.KernelIdeal.defs _ _).mono (fun _ h => ⟨fun c => (h.1 c).2, h.2⟩) (Cert.KernelIdeal.Ring.run_values (F := Bits) m ρ)
  by rw [tables_eq]; exact h

/-- The same over the extended reals. -/
theorem frame_ideal : Cert.quiescent_KernelIdeal := fun m ρ _ =>
  (θ_run Cert.KernelIdeal.defs _ _).mono (fun _ h => ⟨fun c => (h.1 c).2, h.2⟩) (Cert.KernelIdeal.Ring.run_values (F := Ideal) m ρ)

/-- The reference terminates, its argument unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends holding the reference's result. -/
theorem value : Cert.algebraic_KernelIdeal_ReferenceIdeal := fun m ρ m' ρ' _ hin =>
  ⟨Cert.KernelIdeal.Ring.outF (Cert.KernelIdeal.Ring.xstg m ρ),
    (θ_run Cert.KernelIdeal.defs _ _).mono (fun _ h => h.1) (Cert.KernelIdeal.Ring.run_values (F := Ideal) m ρ),
    (θ_run Cert.ReferenceIdeal.defs _ _).mono
      (fun _ h => ⟨(h 0).1.trans (Cert.KernelIdeal.Ring.outF_reference ρ m _ hin).symm, (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, value⟩

end Cert.Proof

end
